-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S32x512 Cert.KernelIdeal.S16x512
  ∧ IdealRules.bf16_pair.SelectZeroStatement Cert.KernelIdeal.S16x512
  ∧ IdealRules.bf16_pair.PackStatement Cert.KernelIdeal.S256x256
  ∧ IdealRules.bf16_pair.Statement Cert.KernelIdeal.S512x256 Cert.KernelIdeal.S256x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v54_0) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x24x32x512 : Shape := ⟨4, ![40, 24, 32, 512]⟩
abbrev S3x3x256x512 : Shape := ⟨4, ![3, 3, 256, 512]⟩
abbrev S512 : Shape := ⟨1, ![512]⟩
abbrev S1x512 : Shape := ⟨2, ![1, 512]⟩
abbrev S40x48x64x256 : Shape := ⟨4, ![40, 48, 64, 256]⟩
abbrev S40x8 : Shape := ⟨2, ![40, 8]⟩
abbrev S1x24x32x512 : Shape := ⟨4, ![1, 24, 32, 512]⟩
abbrev S1x48x64x256 : Shape := ⟨4, ![1, 48, 64, 256]⟩
abbrev S9x256x512 : Shape := ⟨3, ![9, 256, 512]⟩
abbrev S800x512 : Shape := ⟨2, ![800, 512]⟩
abbrev S1x1x256x512 : Shape := ⟨4, ![1, 1, 256, 512]⟩
abbrev S256x512 : Shape := ⟨2, ![256, 512]⟩
abbrev S1x256x512 : Shape := ⟨3, ![1, 256, 512]⟩
abbrev S32x512 : Shape := ⟨2, ![32, 512]⟩
abbrev S1x1x32x512 : Shape := ⟨4, ![1, 1, 32, 512]⟩
abbrev S8x128 : Shape := ⟨2, ![8, 128]⟩
abbrev S1x128 : Shape := ⟨2, ![1, 128]⟩
abbrev S8 : Shape := ⟨1, ![8]⟩
abbrev S8x1 : Shape := ⟨2, ![8, 1]⟩
abbrev S128 : Shape := ⟨1, ![128]⟩
abbrev S1x8 : Shape := ⟨2, ![1, 8]⟩
abbrev S16x512 : Shape := ⟨2, ![16, 512]⟩
abbrev S256x256 : Shape := ⟨2, ![256, 256]⟩
abbrev S512x256 : Shape := ⟨2, ![512, 256]⟩
abbrev S8x64x256 : Shape := ⟨3, ![8, 64, 256]⟩
abbrev S1x64x256 : Shape := ⟨3, ![1, 64, 256]⟩
abbrev S64x256 : Shape := ⟨2, ![64, 256]⟩
abbrev S1x1x64x256 : Shape := ⟨4, ![1, 1, 64, 256]⟩

abbrev nBuf : Space → Nat
  | .hbm => 7
  | .vmem => 12
  | .smem => 0
  | _ => 0

abbrev bufTy : (tb : Table) → Fin (tcTables nBuf tb) → BufTy
  | .hbm, ⟨0, _⟩ => ⟨S40x24x32x512, .bf16⟩
  | .hbm, ⟨1, _⟩ => ⟨S3x3x256x512, .fp8e4m3⟩
  | .hbm, ⟨2, _⟩ => ⟨S512, .f32⟩
  | .hbm, ⟨3, _⟩ => ⟨S1x512, .f32⟩
  | .hbm, ⟨4, _⟩ => ⟨S40x48x64x256, .bf16⟩
  | .hbm, ⟨5, _⟩ => ⟨S40x24x32x512, .fp8e5m2⟩
  | .hbm, ⟨6, _⟩ => ⟨S40x8, .f32⟩
  | .local _ .vmem, ⟨0, _⟩ => ⟨S1x24x32x512, .bf16⟩
  | .local _ .vmem, ⟨1, _⟩ => ⟨S1x24x32x512, .bf16⟩
  | .local _ .vmem, ⟨2, _⟩ => ⟨S3x3x256x512, .fp8e4m3⟩
  | .local _ .vmem, ⟨3, _⟩ => ⟨S1x512, .f32⟩
  | .local _ .vmem, ⟨4, _⟩ => ⟨S1x48x64x256, .bf16⟩
  | .local _ .vmem, ⟨5, _⟩ => ⟨S1x48x64x256, .bf16⟩
  | .local _ .vmem, ⟨6, _⟩ => ⟨S1x24x32x512, .fp8e5m2⟩
  | .local _ .vmem, ⟨7, _⟩ => ⟨S1x24x32x512, .fp8e5m2⟩
  | .local _ .vmem, ⟨8, _⟩ => ⟨S40x8, .f32⟩
  | .local _ .vmem, ⟨9, _⟩ => ⟨S9x256x512, .bf16⟩
  | .local _ .vmem, ⟨10, _⟩ => ⟨S800x512, .bf16⟩
  | .local _ .vmem, ⟨11, _⟩ => ⟨S800x512, .bf16⟩
  | _, _ => ⟨S40x24x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [BitOps F]

abbrev grid0 : Pipeline.Grid := ⟨1, ![40], ![false]⟩

def k0_off1 (i : grid0.Coords) : Fin 2 → Nat :=
  let arg0 : BitVec 32 := BitVec.ofNat 32 (i 0).val
  let v368 : Index := Scalar.indexCast arg0
  let c0_142 : Index := 0#32
  ![v368.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x24x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x256x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x48x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x24x32x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S40x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F]
-- ==== ReferenceIdeal.lean ====
abbrev S40x24x32x512 : Shape := ⟨4, ![40, 24, 32, 512]⟩
abbrev S3x3x256x512 : Shape := ⟨4, ![3, 3, 256, 512]⟩
abbrev S512 : Shape := ⟨1, ![512]⟩
abbrev S40x24x32x8x64 : Shape := ⟨5, ![40, 24, 32, 8, 64]⟩
abbrev S_ : Shape := ⟨0, ![]⟩
abbrev S40x8 : Shape := ⟨2, ![40, 8]⟩
abbrev S254 : Shape := ⟨1, ![254]⟩
abbrev S1 : Shape := ⟨1, ![1]⟩
abbrev S255 : Shape := ⟨1, ![255]⟩
abbrev S40x8x1 : Shape := ⟨3, ![40, 8, 1]⟩
abbrev S1x1x255 : Shape := ⟨3, ![1, 1, 255]⟩
abbrev S40x8x255 : Shape := ⟨3, ![40, 8, 255]⟩
abbrev S40x8x64 : Shape := ⟨3, ![40, 8, 64]⟩
abbrev S40x512 : Shape := ⟨2, ![40, 512]⟩
abbrev S40x1x1x512 : Shape := ⟨4, ![40, 1, 1, 512]⟩
abbrev S1x1x1x512 : Shape := ⟨4, ![1, 1, 1, 512]⟩
abbrev S40x50x66x512 : Shape := ⟨4, ![40, 50, 66, 512]⟩
abbrev S40x48x64x256 : Shape := ⟨4, ![40, 48, 64, 256]⟩
abbrev S40x48x64x512 : Shape := ⟨4, ![40, 48, 64, 512]⟩
abbrev S1x1x256x512 : Shape := ⟨4, ![1, 1, 256, 512]⟩
abbrev S256x512 : Shape := ⟨2, ![256, 512]⟩

abbrev nBuf : Space → Nat
  | .hbm => 140
  | .vmem => 8
  | .smem => 0
  | _ => 0

abbrev hbmTy0_0 (i : Nat) : BufTy := match i % 128 with
  | 0 => ⟨S40x24x32x512, .bf16⟩
  | 1 => ⟨S3x3x256x512, .fp8e4m3⟩
  | 2 => ⟨S512, .f32⟩
  | 3 => ⟨S40x24x32x512, .f32⟩
  | 4 => ⟨S40x24x32x512, .f32⟩
  | 5 => ⟨S40x24x32x8x64, .f32⟩
  | 6 => ⟨S_, .f32⟩
  | 7 => ⟨S40x8, .f32⟩
  | 8 => ⟨S_, .f32⟩
  | 9 => ⟨S40x8, .f32⟩
  | 10 => ⟨S40x8, .f32⟩
  | 11 => ⟨S254, .i32⟩
  | 12 => ⟨S_, .i32⟩
  | 13 => ⟨S254, .i32⟩
  | 14 => ⟨S254, .i32⟩
  | 15 => ⟨S254, .f32⟩
  | 16 => ⟨S_, .f32⟩
  | 17 => ⟨S254, .f32⟩
  | 18 => ⟨S254, .f32⟩
  | 19 => ⟨S_, .f32⟩
  | 20 => ⟨S1, .f32⟩
  | 21 => ⟨S255, .f32⟩
  | 22 => ⟨S40x8x1, .f32⟩
  | 23 => ⟨S1x1x255, .f32⟩
  | 24 => ⟨S40x8x255, .f32⟩
  | 25 => ⟨S40x8x255, .f32⟩
  | 26 => ⟨S40x8x255, .i1⟩
  | 27 => ⟨S40x8x255, .i32⟩
  | 28 => ⟨S_, .i32⟩
  | 29 => ⟨S40x8, .i32⟩
  | 30 => ⟨S_, .i32⟩
  | 31 => ⟨S40x8, .i32⟩
  | 32 => ⟨S40x8, .i32⟩
  | 33 => ⟨S_, .f32⟩
  | 34 => ⟨S40x8, .f32⟩
  | 35 => ⟨S40x8, .i1⟩
  | 36 => ⟨S_, .i32⟩
  | 37 => ⟨S_, .i32⟩
  | 38 => ⟨S40x8, .i32⟩
  | 39 => ⟨S40x8, .i32⟩
  | 40 => ⟨S40x8, .f32⟩
  | 41 => ⟨S_, .f32⟩
  | 42 => ⟨S40x8, .f32⟩
  | 43 => ⟨S40x8, .f32⟩
  | 44 => ⟨S_, .i32⟩
  | 45 => ⟨S40x8, .i32⟩
  | 46 => ⟨S40x8, .i1⟩
  | 47 => ⟨S_, .i32⟩
  | 48 => ⟨S40x8, .i32⟩
  | 49 => ⟨S40x8, .i1⟩
  | 50 => ⟨S_, .f32⟩
  | 51 => ⟨S_, .f32⟩
  | 52 => ⟨S40x8, .f32⟩
  | 53 => ⟨S40x8, .f32⟩
  | 54 => ⟨S_, .f32⟩
  | 55 => ⟨S_, .f32⟩
  | 56 => ⟨S40x8, .f32⟩
  | 57 => ⟨S40x8, .f32⟩
  | 58 => ⟨S40x8, .i32⟩
  | 59 => ⟨S40x8, .f32⟩
  | 60 => ⟨S_, .f32⟩
  | 61 => ⟨S40x8, .f32⟩
  | 62 => ⟨S40x8, .f32⟩
  | 63 => ⟨S_, .i32⟩
  | 64 => ⟨S40x8, .i32⟩
  | 65 => ⟨S40x8, .i1⟩
  | 66 => ⟨S_, .i32⟩
  | 67 => ⟨S40x8, .i32⟩
  | 68 => ⟨S40x8, .i1⟩
  | 69 => ⟨S_, .f32⟩
  | 70 => ⟨S_, .f32⟩
  | 71 => ⟨S40x8, .f32⟩
  | 72 => ⟨S40x8, .f32⟩
  | 73 => ⟨S_, .f32⟩
  | 74 => ⟨S_, .f32⟩
  | 75 => ⟨S40x8, .f32⟩
  | 76 => ⟨S40x8, .f32⟩
  | 77 => ⟨S40x8x64, .f32⟩
  | 78 => ⟨S40x512, .f32⟩
  | 79 => ⟨S40x1x1x512, .f32⟩
  | 80 => ⟨S40x8, .bf16⟩
  | 81 => ⟨S40x8x64, .bf16⟩
  | 82 => ⟨S40x512, .bf16⟩
  | 83 => ⟨S40x1x1x512, .bf16⟩
  | 84 => ⟨S512, .bf16⟩
  | 85 => ⟨S1x1x1x512, .bf16⟩
  | 86 => ⟨S40x24x32x512, .fp8e5m2⟩
  | 87 => ⟨S40x24x32x512, .bf16⟩
  | 88 => ⟨S3x3x256x512, .bf16⟩
  | 89 => ⟨S3x3x256x512, .bf16⟩
  | 90 => ⟨S_, .bf16⟩
  | 91 => ⟨S40x50x66x512, .bf16⟩
  | 92 => ⟨S_, .f32⟩
  | 93 => ⟨S40x48x64x256, .f32⟩
  | 94 => ⟨S40x48x64x512, .bf16⟩
  | 95 => ⟨S1x1x256x512, .bf16⟩
  | 96 => ⟨S256x512, .bf16⟩
  | 97 => ⟨S40x48x64x256, .f32⟩
  | 98 => ⟨S40x48x64x256, .f32⟩
  | 99 => ⟨S40x48x64x512, .bf16⟩
  | 100 => ⟨S1x1x256x512, .bf16⟩
  | 101 => ⟨S256x512, .bf16⟩
  | 102 => ⟨S40x48x64x256, .f32⟩
  | 103 => ⟨S40x48x64x256, .f32⟩
  | 104 => ⟨S40x48x64x512, .bf16⟩
  | 105 => ⟨S1x1x256x512, .bf16⟩
  | 106 => ⟨S256x512, .bf16⟩
  | 107 => ⟨S40x48x64x256, .f32⟩
  | 108 => ⟨S40x48x64x256, .f32⟩
  | 109 => ⟨S40x48x64x512, .bf16⟩
  | 110 => ⟨S1x1x256x512, .bf16⟩
  | 111 => ⟨S256x512, .bf16⟩
  | 112 => ⟨S40x48x64x256, .f32⟩
  | 113 => ⟨S40x48x64x256, .f32⟩
  | 114 => ⟨S40x48x64x512, .bf16⟩
  | 115 => ⟨S1x1x256x512, .bf16⟩
  | 116 => ⟨S256x512, .bf16⟩
  | 117 => ⟨S40x48x64x256, .f32⟩
  | 118 => ⟨S40x48x64x256, .f32⟩
  | 119 => ⟨S40x48x64x512, .bf16⟩
  | 120 => ⟨S1x1x256x512, .bf16⟩
  | 121 => ⟨S256x512, .bf16⟩
  | 122 => ⟨S40x48x64x256, .f32⟩
  | 123 => ⟨S40x48x64x256, .f32⟩
  | 124 => ⟨S40x48x64x512, .bf16⟩
  | 125 => ⟨S1x1x256x512, .bf16⟩
  | 126 => ⟨S256x512, .bf16⟩
  | 127 => ⟨S40x48x64x256, .f32⟩
  | _ => ⟨S40x24x32x512, .bf16⟩

abbrev hbmTy0_1 (i : Nat) : BufTy := match i % 128 with
  | 0 => ⟨S40x48x64x256, .f32⟩
  | 1 => ⟨S40x48x64x512, .bf16⟩
  | 2 => ⟨S1x1x256x512, .bf16⟩
  | 3 => ⟨S256x512, .bf16⟩
  | 4 => ⟨S40x48x64x256, .f32⟩
  | 5 => ⟨S40x48x64x256, .f32⟩
  | 6 => ⟨S40x48x64x512, .bf16⟩
  | 7 => ⟨S1x1x256x512, .bf16⟩
  | 8 => ⟨S256x512, .bf16⟩
  | 9 => ⟨S40x48x64x256, .f32⟩
  | 10 => ⟨S40x48x64x256, .f32⟩
  | 11 => ⟨S40x48x64x256, .bf16⟩
  | _ => ⟨S40x24x32x512, .bf16⟩

abbrev hbmTy (i : Nat) : BufTy := match i / 128 with
  | 0 => hbmTy0_0 i
  | 1 => hbmTy0_1 i
  | _ => ⟨S40x24x32x512, .bf16⟩

abbrev bufTy : (tb : Table) → Fin (tcTables nBuf tb) → BufTy
  | .hbm, ⟨i, _⟩ => hbmTy i
  | .local _ .vmem, ⟨0, _⟩ => ⟨S40x24x32x512, .f32⟩
  | .local _ .vmem, ⟨1, _⟩ => ⟨S40x1x1x512, .f32⟩
  | .local _ .vmem, ⟨2, _⟩ => ⟨S40x1x1x512, .bf16⟩
  | .local _ .vmem, ⟨3, _⟩ => ⟨S3x3x256x512, .fp8e4m3⟩
  | .local _ .vmem, ⟨4, _⟩ => ⟨S1x1x1x512, .bf16⟩
  | .local _ .vmem, ⟨5, _⟩ => ⟨S40x24x32x512, .fp8e5m2⟩
  | .local _ .vmem, ⟨6, _⟩ => ⟨S40x24x32x512, .bf16⟩
  | .local _ .vmem, ⟨7, _⟩ => ⟨S3x3x256x512, .bf16⟩
  | _, _ => ⟨S40x24x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_v33 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_c_13 : Ref sig .tc := ⟨.hbm, 63, rfl⟩
abbrev main_v39 : Ref sig .tc := ⟨.hbm, 64, rfl⟩
abbrev main_v40 : Ref sig .tc := ⟨.hbm, 65, rfl⟩
abbrev main_c_14 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_call3_v0 : Ref sig .tc := ⟨.hbm, 70, rfl⟩
abbrev main_call3_v1 : Ref sig .tc := ⟨.hbm, 71, rfl⟩
abbrev main_v43 : Ref sig .tc := ⟨.hbm, 72, rfl⟩
abbrev main_cst_16 : Ref sig .tc := ⟨.hbm, 73, rfl⟩
abbrev main_call4_v0 : Ref sig .tc := ⟨.hbm, 74, rfl⟩
abbrev main_call4_v1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54_0 : Ref sig .tc := ⟨.hbm, 86, rfl⟩
abbrev main_v54_1 : Ref sig .tc := ⟨.hbm, 87, rfl⟩
abbrev main_v54_2 : Ref sig .tc := ⟨.hbm, 88, rfl⟩
abbrev main_v55 : Ref sig .tc := ⟨.hbm, 89, rfl⟩
abbrev main_cst_17 : Ref sig .tc := ⟨.hbm, 90, rfl⟩
abbrev main_v56 : Ref sig .tc := ⟨.hbm, 91, rfl⟩
abbrev main_cst_18 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S40x24x32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1x1x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x256x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x24x32x512 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x24x32x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x3x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Setup.lean ====
/- What the two runs of the kernel's body share: the branch condition in closed form, the staging and scratch memrefs, and the
   scratch buffers in the pipeline's invariant. -/
module

public import proofs.«01_k».proof.Proof.Gen.KernelIdeal.Frame
public import proofs.«01_k».proof.Proof.Gen.KernelIdeal.Skeleton

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x24x32x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3x256x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x48x64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x24x32x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x8 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S9x256x512 .bf16 := Memref.whole cc0_scratch0
abbrev scM0_1 : Memref sig .tc .vmem S800x512 .bf16 := Memref.whole cc0_scratch1
abbrev scM0_2 : Memref sig .tc .vmem S800x512 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Val

end
-- ==== Proof.Block.lean ====
/- What one grid point computes, as functions of the block of `dy`, the weights and their scale: the kernel's own operations over the
   rows of the block, put together array by array. -/
module

public import proofs.«01_k».proof.Proof.Setup
public import Idealize.ShloMosaic.Lib.Pipeline.ValueKit
public import Idealize.ShloMosaic.Lib.Pointwise

@[expose] public section

set_option maxRecDepth 16384

noncomputable section

namespace Cert.KernelIdeal.Val

open Idealize.ShloMosaic Idealize.ShloMosaic.TcCoe
open Cert.KernelIdeal.Gen

variable {F : FTy → Type} [FloatOps F]

/-- Row `r` of a block of `dy`. -/
def rowAt (x0 : Vec F S1x24x32x512 .bf16) (r : Fin 24) : Vec F S1x1x32x512 .bf16 := fun j => x0 (ix4 0 r (j 2) (j 3))

/-- The largest absolute value of each lane over a block. -/
def amaxRow (x0 : Vec F S1x24x32x512 .bf16) : FVec F S1x512 .f32 :=
  k0_pay21 (k0_pay19 (k0_pay18 (k0_pay16 (rowAt x0 0) (rowAt x0 1) (rowAt x0 2) (rowAt x0 3) (rowAt x0 4) (rowAt x0 5)) (k0_pay17 (rowAt x0 6))
    (rowAt x0 7) (rowAt x0 8) (rowAt x0 9) (rowAt x0 10) (rowAt x0 11) (rowAt x0 12) (rowAt x0 13))
    (rowAt x0 14) (rowAt x0 15) (rowAt x0 16) (rowAt x0 17) (rowAt x0 18) (rowAt x0 19) (rowAt x0 20)) (k0_pay20 (rowAt x0 21)) (rowAt x0 22) (rowAt x0 23)

/-- The lane maxima spread over eight sublanes, two sublanes to each 128 lanes. -/
def spread8 (v : FVec F S1x512 .f32) : FVec F S8x128 .f32 :=
  k0_pay30 v (iota .tc S8x128 32 [0] iota_S8x128_d0_w32)
    (k0_pay26 v (iota .tc S8x128 32 [0] iota_S8x128_d0_w32) k0_pay22 (extractStridedSlice S1x128 ![0, 0] v slices_S1x512_o0_0_S1x128) k0_pay24 k0_pay25)
    (k0_pay27 v) 2#32 (k0_pay28 (iota .tc S8x128 32 [0] iota_S8x128_d0_w32)) (k0_pay29 (iota .tc S8x128 32 [0] iota_S8x128_d0_w32)) 1#32 0#1

/-- The group maxima: sublane `g` holds the maximum of group `g` on every lane. -/
def amax8 (x0 : Vec F S1x24x32x512 .bf16) : FVec F S8x128 .f32 :=
  k0_pay32 (iota .tc S8x128 32 [0] iota_S8x128_d0_w32) (iota .tc S8x128 32 [1] iota_S8x128_d1_w32) (spread8 (amaxRow x0)) 64#32 k0_pay31

/-- The scales of the groups, from the group maxima. -/
def scl8 (a : FVec F S8x128 .f32) : FVec F S8x128 .f32 := k0_pay39 a (k0_pay33 a) (k0_pay34 a) (k0_pay35 a) (k0_pay36 a) (k0_pay37 a)
/-- The bits of the inverse scales of the groups, from the group maxima. -/
def inv8 (a : FVec F S8x128 .f32) : IVec S8x128 32 := k0_pay40 a (k0_pay33 a) (k0_pay34 a) (k0_pay35 a) (k0_pay36 a) (k0_pay37 a)
/-- The inverse scales along the lanes of a row. -/
def invT (a : FVec F S8x128 .f32) : FVec F S32x512 .bf16 := k0_pay42 (inv8 a)
/-- The scales along the lanes of a row. -/
def sclT (a : FVec F S8x128 .f32) : FVec F S32x512 .bf16 :=
  k0_pay46 (scl8 a) (iota .tc S1x128 32 [1] iota_S1x128_d1_w32) (k0_pay43 (scl8 a)) (k0_pay44 (scl8 a)) k0_pay45
/-- The row of scales stored for the block. -/
def scaleRow (x0 : Vec F S1x24x32x512 .bf16) : FVec F S1x8 .f32 := k0_pay41 (scl8 (amax8 x0))

/-- The codes of row `r`. -/
def codesRow (x0 : Vec F S1x24x32x512 .bf16) (r : Fin 24) : FVec F S1x1x32x512 .fp8e5m2 := k0_pay56 (invT (amax8 x0)) (rowAt x0 r)
/-- The dequantised row `r`. -/
def x0Row (x0 : Vec F S1x24x32x512 .bf16) (r : Fin 24) : FVec F S32x512 .bf16 := k0_pay58 (invT (amax8 x0)) (sclT (amax8 x0)) (rowAt x0 r)
/-- The dequantised row `r` moved up by one place, zero in the last. -/
def x1Row (x0 : Vec F S1x24x32x512 .bf16) (r : Fin 24) : FVec F S32x512 .bf16 := k0_pay59 (invT (amax8 x0)) (sclT (amax8 x0)) k0_pay47 (rowAt x0 r)

/-- The codes of the block. -/
def codes (x0 : Vec F S1x24x32x512 .bf16) : Vec F S1x24x32x512 .fp8e5m2 := fun y => codesRow x0 (y 1) (ix4 0 0 (y 2) (y 3))

/-- 24 rows of 32 stacked, and 32 zero rows after them. -/
def stack (T : Fin 24 → FVec F S32x512 .bf16) : Vec F S800x512 .bf16 := fun y =>
  if h : (y 0).val < 768 then T ⟨(y 0).val / 32, by omega⟩ (ix2 ⟨(y 0).val % 32, by omega⟩ (y 1)) else FloatOps.ofBits .bf16 0x0000#16

/-- Tap `k` of the weights. -/
def tapAt (x1 : Vec F S3x3x256x512 .fp8e4m3) (k : Fin 9) : Vec F S1x1x256x512 .fp8e4m3 := fun j =>
  x1 (ix4 ⟨k.val / 3, by omega⟩ ⟨k.val % 3, by omega⟩ (j 2) (j 3))
/-- The scaled weights. -/
def wts (x1 : Vec F S3x3x256x512 .fp8e4m3) (x2 : Vec F S1x512 .f32) : Vec F S9x256x512 .bf16 := fun y =>
  k0_pay4 x2 (tapAt x1 (y 0)) (ix3 0 (y 1) (y 2))

/-- 256 rows of a stack from row `256 q + 32 o`. -/
def rowsAt (X : Vec F S800x512 .bf16) (q : Fin 3) (o : Fin 2) : Vec F S256x512 .bf16 := fun j =>
  X (ix2 ⟨256 * q.val + 32 * o.val + (j 0).val, by have := ValueIdx.idx2_lt0 (n0 := 256) (n1 := 512) j; omega⟩ (j 1))
/-- Tap `k` of the scaled weights. -/
def slab (W : Vec F S9x256x512 .bf16) (k : Fin 9) : Vec F S1x256x512 .bf16 := fun j => W (ix3 k (j 1) (j 2))

/-- The even rows of chunk `q` of `dx`. -/
def dxEven (X0 X1 : Vec F S800x512 .bf16) (W : Vec F S9x256x512 .bf16) (q : Fin 3) : FVec F S8x64x256 .bf16 :=
  k0_pay192 (k0_pay188 (rowsAt X0 q 0) (slab W 4)) (k0_pay189 (rowsAt X0 q 0) (slab W 5) (rowsAt X1 q 0) (slab W 3))
/-- The odd rows of chunk `q` of `dx`. -/
def dxOdd (X0 X1 : Vec F S800x512 .bf16) (W : Vec F S9x256x512 .bf16) (q : Fin 3) : FVec F S8x64x256 .bf16 :=
  k0_pay203 (k0_pay190 (rowsAt X0 q 0) (slab W 7) (rowsAt X0 q 1) (slab W 1))
    (k0_pay191 (rowsAt X0 q 0) (slab W 8) (rowsAt X1 q 0) (slab W 6) (rowsAt X0 q 1) (slab W 2) (rowsAt X1 q 1) (slab W 0))
/-- `dx` of the block from the two stacks and the scaled weights. -/
def dxOf (X0 X1 : Vec F S800x512 .bf16) (W : Vec F S9x256x512 .bf16) : Vec F S1x48x64x256 .bf16 := fun y =>
  (if (y 1).val % 2 = 0 then dxEven X0 X1 W ⟨(y 1).val / 16, by have := (y 1).isLt; simp at this; omega⟩ else dxOdd X0 X1 W ⟨(y 1).val / 16, by have := (y 1).isLt; simp at this; omega⟩)
    (ix3 ⟨(y 1).val % 16 / 2, by omega⟩ (y 2) (y 3))

/-! ## The stores are blocks of these arrays -/

/-- A row stored as one of the 24 rows of the codes is that row of the array. -/
theorem codes_piece (x0 : Vec F S1x24x32x512 .bf16) (n : ℕ) (hn : n < 24) (inb) (w : FVec F S1x1x32x512 .fp8e5m2) (hw : w = codesRow x0 ⟨n, hn⟩)
    (x : (Rect.unit (s := S1x24x32x512) ![0, n, 0, 0] S1x1x32x512.size inb).shape.Idx) :
    w x = codes x0 ((Rect.unit (s := S1x24x32x512) ![0, n, 0, 0] S1x1x32x512.size inb).emb x) := by
  subst hw
  have h0 : (x 0).val = 0 := Nat.lt_one_iff.mp (x 0).isLt
  have h1 : (x 1).val = 0 := Nat.lt_one_iff.mp (x 1).isLt
  unfold codes
  refine congr (congrArg (codesRow x0) (Fin.ext ?_)) ?_
  · show n = n + 1 * (x 1).val; omega
  · funext a; apply Fin.ext
    match a with
    | ⟨0, _⟩ => exact h0
    | ⟨1, _⟩ => exact h1
    | ⟨2, _⟩ => show (x 2).val = 0 + 1 * (x 2).val; omega
    | ⟨3, _⟩ => show (x 3).val = 0 + 1 * (x 3).val; omega

/-- A row stored as rows `32 r` to `32 r + 31` of a stack is that part of the stack. -/
theorem stack_piece (T : Fin 24 → FVec F S32x512 .bf16) (r : Fin 24) (n : ℕ) (hn : n = 32 * r.val) (inb) (w : FVec F S32x512 .bf16) (hw : w = T r)
    (x : (Rect.unit (s := S800x512) ![n, 0] S32x512.size inb).shape.Idx) :
    w x = stack T ((Rect.unit (s := S800x512) ![n, 0] S32x512.size inb).emb x) := by
  subst hw hn
  have hx : (x 0).val < 32 := (x 0).isLt
  have e0 : (((Rect.unit (s := S800x512) ![32 * r.val, 0] S32x512.size inb).emb x) 0 : ℕ) = 32 * r.val + 1 * (x 0).val := rfl
  have e1 : (((Rect.unit (s := S800x512) ![32 * r.val, 0] S32x512.size inb).emb x) 1 : ℕ) = 0 + 1 * (x 1).val := rfl
  unfold stack
  rw [dif_pos (by rw [e0]; omega)]
  refine congr (congrArg T (Fin.ext ?_)) ?_
  · show r.val = _ / 32; rw [e0]; omega
  · funext a; apply Fin.ext
    match a with
    | ⟨0, _⟩ => show (x 0).val = _ % 32; rw [e0]; omega
    | ⟨1, _⟩ => show (x 1).val = 0 + 1 * (x 1).val; omega

/-- The zero rows after a stack. -/
theorem stack_tail (T : Fin 24 → FVec F S32x512 .bf16) (y : S800x512.Idx) (h : 768 ≤ (y 0).val) : stack T y = FloatOps.ofBits .bf16 0x0000#16 := by
  unfold stack; rw [dif_neg (by omega)]

/-- A tap stored as slab `k` of the scaled weights is that slab. -/
theorem wts_piece (x1 : Vec F S3x3x256x512 .fp8e4m3) (x2 : Vec F S1x512 .f32) (k : ℕ) (hk : k < 9) (inb) (w : Vec F S1x256x512 .bf16) (hw : w = k0_pay4 x2 (tapAt x1 ⟨k, hk⟩))
    (x : (Rect.unit (s := S9x256x512) ![k, 0, 0] S1x256x512.size inb).shape.Idx) :
    w x = wts x1 x2 ((Rect.unit (s := S9x256x512) ![k, 0, 0] S1x256x512.size inb).emb x) := by
  subst hw
  have h0 : (x 0).val = 0 := Nat.lt_one_iff.mp (x 0).isLt
  unfold wts
  refine congr (congrArg (fun k => k0_pay4 x2 (tapAt x1 k)) (Fin.ext ?_)) ?_
  · show k = k + 1 * (x 0).val
    have : (x 0).val = 0 := h0
    omega
  · funext a; apply Fin.ext
    match a with
    | ⟨0, _⟩ => exact h0
    | ⟨1, _⟩ => show (x 1).val = 0 + 1 * (x 1).val; omega
    | ⟨2, _⟩ => show (x 2).val = 0 + 1 * (x 2).val; omega

/-- Slab `j` of eight rows of `dx`, as it is stored. -/
def dxSlice (T : FVec F S8x64x256 .bf16) (j : Fin 8) : Vec F S1x1x64x256 .bf16 := fun x => T (ix3 j (x 2) (x 3))

/-- A row of `dx` stored is that row of the array: even rows. -/
theorem dx_piece_even (X0 X1 : Vec F S800x512 .bf16) (W : Vec F S9x256x512 .bf16) (q : Fin 3) (j : Fin 8) (n : ℕ) (hn : n = 16 * q.val + 2 * j.val) (inb)
    (w : Vec F S1x1x64x256 .bf16) (hw : w = dxSlice (dxEven X0 X1 W q) j) (x : (Rect.unit (s := S1x48x64x256) ![0, n, 0, 0] S1x1x64x256.size inb).shape.Idx) :
    w x = dxOf X0 X1 W ((Rect.unit (s := S1x48x64x256) ![0, n, 0, 0] S1x1x64x256.size inb).emb x) := by
  subst hw hn
  have h1 : (x 1).val = 0 := Nat.lt_one_iff.mp (x 1).isLt
  have h1' : (x 1).val = 0 := h1
  have e1 : (((Rect.unit (s := S1x48x64x256) ![0, 16 * q.val + 2 * j.val, 0, 0] S1x1x64x256.size inb).emb x) 1 : ℕ) = 16 * q.val + 2 * j.val + 1 * (x 1).val := rfl
  unfold dxOf dxSlice
  rw [if_pos (by rw [e1]; omega)]
  refine congr (congrArg _ (Fin.ext ?_)) ?_
  · show q.val = _ / 16; rw [e1]; omega
  · funext a; apply Fin.ext
    match a with
    | ⟨0, _⟩ => show j.val = _ % 16 / 2; rw [e1]; omega
    | ⟨1, _⟩ => show (x 2).val = 0 + 1 * (x 2).val; omega
    | ⟨2, _⟩ => show (x 3).val = 0 + 1 * (x 3).val; omega

/-- A row of `dx` stored is that row of the array: odd rows. -/
theorem dx_piece_odd (X0 X1 : Vec F S800x512 .bf16) (W : Vec F S9x256x512 .bf16) (q : Fin 3) (j : Fin 8) (n : ℕ) (hn : n = 16 * q.val + 2 * j.val + 1) (inb)
    (w : Vec F S1x1x64x256 .bf16) (hw : w = dxSlice (dxOdd X0 X1 W q) j) (x : (Rect.unit (s := S1x48x64x256) ![0, n, 0, 0] S1x1x64x256.size inb).shape.Idx) :
    w x = dxOf X0 X1 W ((Rect.unit (s := S1x48x64x256) ![0, n, 0, 0] S1x1x64x256.size inb).emb x) := by
  subst hw hn
  have h1 : (x 1).val = 0 := Nat.lt_one_iff.mp (x 1).isLt
  have h1' : (x 1).val = 0 := h1
  have e1 : (((Rect.unit (s := S1x48x64x256) ![0, 16 * q.val + 2 * j.val + 1, 0, 0] S1x1x64x256.size inb).emb x) 1 : ℕ) = 16 * q.val + 2 * j.val + 1 + 1 * (x 1).val := rfl
  unfold dxOf dxSlice
  rw [if_neg (by rw [e1]; omega)]
  refine congr (congrArg _ (Fin.ext ?_)) ?_
  · show q.val = _ / 16; rw [e1]; omega
  · funext a; apply Fin.ext
    match a with
    | ⟨0, _⟩ => show j.val = _ % 16 / 2; rw [e1]; omega
    | ⟨1, _⟩ => show (x 2).val = 0 + 1 * (x 2).val; omega
    | ⟨2, _⟩ => show (x 3).val = 0 + 1 * (x 3).val; omega

/-- The kernel's way to store one slab of eight: cut out, and given unit axes. -/
theorem dxSlice_eq (T : FVec F S8x64x256 .bf16) (j : Fin 8) (h : S8x64x256.Slices ![j.val, 0, 0] S1x64x256) :
    shapeCast S1x1x64x256 (shapeCast S64x256 (extractStridedSlice S1x64x256 ![j.val, 0, 0] T h) shapeCasts_S1x64x256_S64x256) shapeCasts_S64x256_S1x1x64x256 = dxSlice T j := by
  funext x
  idx_vars x
  pointwise [dxSlice]

/-! ## The loads -/

/-- A load of row `r` of a block. -/
theorem ld_row (x0 : Vec F S1x24x32x512 .bf16) (r : Fin 24) (inb) :
    View.ld x0 (Rect.unit (s := S1x24x32x512) ![0, r.val, 0, 0] S1x1x32x512.size inb) = rowAt x0 r := by
  funext x
  refine View.ld_unit_apply_of _ _ _ _ _ _ fun a => ?_
  have h0 : (x 0).val = 0 := Nat.lt_one_iff.mp (x 0).isLt
  have h1 : (x 1).val = 0 := Nat.lt_one_iff.mp (x 1).isLt
  match a with
  | ⟨0, _⟩ => show 0 = 0 + (x 0).val; omega
  | ⟨1, _⟩ => show r.val = r.val + (x 1).val; have : (x 1).val = 0 := h1; omega
  | ⟨2, _⟩ => show (x 2).val = 0 + (x 2).val; omega
  | ⟨3, _⟩ => show (x 3).val = 0 + (x 3).val; omega

/-- A load of tap `k` of the weights. -/
theorem ld_tap (x1 : Vec F S3x3x256x512 .fp8e4m3) (k : Fin 9) (a b : ℕ) (ha : a = k.val / 3) (hb : b = k.val % 3) (inb) :
    View.ld x1 (Rect.unit (s := S3x3x256x512) ![a, b, 0, 0] S1x1x256x512.size inb) = tapAt x1 k := by
  funext x
  refine View.ld_unit_apply_of _ _ _ _ _ _ fun d => ?_
  have h0 : (x 0).val = 0 := Nat.lt_one_iff.mp (x 0).isLt
  have h1 : (x 1).val = 0 := Nat.lt_one_iff.mp (x 1).isLt
  match d with
  | ⟨0, _⟩ => show k.val / 3 = a + (x 0).val; have : (x 0).val = 0 := h0; omega
  | ⟨1, _⟩ => show k.val % 3 = b + (x 1).val; have : (x 1).val = 0 := h1; omega
  | ⟨2, _⟩ => show (x 2).val = 0 + (x 2).val; omega
  | ⟨3, _⟩ => show (x 3).val = 0 + (x 3).val; omega

/-- A load of slab `k` of the scaled weights. -/
theorem ld_slab (W : Vec F S9x256x512 .bf16) (k : Fin 9) (inb) :
    View.ld W (Rect.unit (s := S9x256x512) ![k.val, 0, 0] S1x256x512.size inb) = slab W k := by
  funext x
  refine View.ld_unit_apply_of _ _ _ _ _ _ fun d => ?_
  have h0 : (x 0).val = 0 := Nat.lt_one_iff.mp (x 0).isLt
  match d with
  | ⟨0, _⟩ => show k.val = k.val + (x 0).val; have : (x 0).val = 0 := h0; omega
  | ⟨1, _⟩ => show (x 1).val = 0 + (x 1).val; omega
  | ⟨2, _⟩ => show (x 2).val = 0 + (x 2).val; omega

/-- A load of 256 rows of a stack. -/
theorem ld_rows (X : Vec F S800x512 .bf16) (q : Fin 3) (o : Fin 2) (n : ℕ) (hn : n = 256 * q.val + 32 * o.val) (inb) :
    View.ld X (Rect.unit (s := S800x512) ![n, 0] S256x512.size inb) = rowsAt X q o := by
  subst hn
  funext x
  refine View.ld_unit_apply_of _ _ _ _ _ _ fun d => ?_
  match d with
  | ⟨0, _⟩ => rfl
  | ⟨1, _⟩ => show (x 1).val = 0 + (x 1).val; omega

end Cert.KernelIdeal.Val

end
-- ==== Proof.RunA.lean ====
/- The run of the kernel's body at the first point: what it stores in each buffer. -/
module

public import proofs.«01_k».proof.Proof.Setup

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

-- (the run's proof term is large: checking it walks past the default budget)
set_option maxHeartbeats 6400000 in
/-- The kernel's body at the first point, where the weights are scaled and the rows under the two images are zeroed: the pieces it stores in
    each output and scratch buffer (last first), with the proof that on whole memrefs holding the inputs the body runs to the
    inputs as they were and each of those buffers with its pieces written. -/
noncomputable def runA (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : cond0_0 i)
    (x0 : Vec F S1x24x32x512 .bf16) (x1 : Vec F S3x3x256x512 .fp8e4m3) (x2 : Vec F S1x512 .f32) (x5 : Vec F S40x8 .f32) :
    Σ' (L3 : List (View.Piece (Elt F) S1x48x64x256 .bf16)), Σ' (L4 : List (View.Piece (Elt F) S1x24x32x512 .fp8e5m2)), Σ' (L5 : List (View.Piece (Elt F) S40x8 .f32)), Σ' (L7 : List (View.Piece (Elt F) S9x256x512 .bf16)), Σ' (L8 : List (View.Piece (Elt F) S800x512 .bf16)), { L9 : List (View.Piece (Elt F) S800x512 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, (arg4.view.loc (c : Thread nD τ) ↦[arg4.view.set]{fullShare} arg4.view.writes (Elt F) f L3)) ∗ (∃ f, (arg5.view.loc (c : Thread nD τ) ↦[arg5.view.set]{fullShare} arg5.view.writes (Elt F) f L4)) ∗ (arg6.view.loc (c : Thread nD τ) ↦[arg6.view.set]{fullShare} arg6.view.writes (Elt F) (harg6.unread x5) L5) ∗ (∃ f, (arg7.view.loc (c : Thread nD τ) ↦[arg7.view.set]{fullShare} arg7.view.writes (Elt F) f L7)) ∗ (∃ f, (arg8.view.loc (c : Thread nD τ) ↦[arg8.view.set]{fullShare} arg8.view.writes (Elt F) f L8)) ∗ (∃ f, (arg9.view.loc (c : Thread nD τ) ↦[arg9.view.set]{fullShare} arg9.view.writes (Elt F) f L9))) -∗ K ⟨⟩))
          ⊢ wp frame (wpE (defs₀ (F := F)) Variants.none c none) E (cc0_dgrad i arg1 harg1 arg2 harg2 arg3 harg3 arg4 harg4 arg5 harg5 arg6 harg6 arg7 harg7 arg8 harg8 arg9 harg9) K  } := by
  refine ⟨?_, ?_, ?_, ?_, ?_, ?_, fun E K => ?run⟩
  case run =>
    simp only [cc0_dgrad_eq_skeleton]; unfold cc0_dgrad_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexact H5
    isplitl [HS0]; · iexists _; iexact HS0
    isplitl [HS1]; · iexists _; iexact HS1
    iexists _; iexact HS2

end Cert.KernelIdeal.Val

end
-- ==== Proof.RunB.lean ====
/- The run of the kernel's body at every point but the first: what it stores in each buffer. -/
module

public import proofs.«01_k».proof.Proof.RunA

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal.Gen

variable {F : FTy → Type} [FloatOps F]

-- (the run's proof term is large: checking it walks past the default budget)
set_option maxHeartbeats 6400000 in
/-- The kernel's body at every other point, the scaled weights and the zero rows being in the scratch buffers already: the pieces it stores in
    each output and scratch buffer (last first), with the proof that on whole memrefs holding the inputs the body runs to the
    inputs as they were and each of those buffers with its pieces written. -/
noncomputable def runB (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : ¬cond0_0 i)
    (x0 : Vec F S1x24x32x512 .bf16) (x1 : Vec F S3x3x256x512 .fp8e4m3) (x2 : Vec F S1x512 .f32) (x5 : Vec F S40x8 .f32) (xs0 : Vec F S9x256x512 .bf16) (xs1 xs2 : Vec F S800x512 .bf16) :
    Σ' (L3 : List (View.Piece (Elt F) S1x48x64x256 .bf16)), Σ' (L4 : List (View.Piece (Elt F) S1x24x32x512 .fp8e5m2)), Σ' (L5 : List (View.Piece (Elt F) S40x8 .f32)), Σ' (L8 : List (View.Piece (Elt F) S800x512 .bf16)), { L9 : List (View.Piece (Elt F) S800x512 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare x5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ (∃ f, (arg4.view.loc (c : Thread nD τ) ↦[arg4.view.set]{fullShare} arg4.view.writes (Elt F) f L3)) ∗ (∃ f, (arg5.view.loc (c : Thread nD τ) ↦[arg5.view.set]{fullShare} arg5.view.writes (Elt F) f L4)) ∗ (arg6.view.loc (c : Thread nD τ) ↦[arg6.view.set]{fullShare} arg6.view.writes (Elt F) (harg6.unread x5) L5) ∗ owns (c : Thread nD τ) arg7 fullShare xs0 ∗ (arg8.view.loc (c : Thread nD τ) ↦[arg8.view.set]{fullShare} arg8.view.writes (Elt F) (harg8.unread xs1) L8) ∗ (arg9.view.loc (c : Thread nD τ) ↦[arg9.view.set]{fullShare} arg9.view.writes (Elt F) (harg9.unread xs2) L9)) -∗ K ⟨⟩))
          ⊢ wp frame (wpE (defs₀ (F := F)) Variants.none c none) E (cc0_dgrad i arg1 harg1 arg2 harg2 arg3 harg3 arg4 harg4 arg5 harg5 arg6 harg6 arg7 harg7 arg8 harg8 arg9 harg9) K  } := by
  refine ⟨?_, ?_, ?_, ?_, ?_, fun E K => ?run⟩
  case run =>
    simp only [cc0_dgrad_eq_skeleton]; unfold cc0_dgrad_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg6.eq_unread hf5; obtain rfl := harg7.eq_unread hfs0; obtain rfl := harg8.eq_unread hfs1; obtain rfl := harg9.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexact H5
    isplitl [HS0]
    · iexists _; isplitr; · ipureintro; exact harg7.read_unread _
      iexact HS0
    isplitl [HS1]; · iexact HS1
    iexact HS2

end Cert.KernelIdeal.Val

end
-- ==== Proof.Pieces.lean ====
/- What the kernel stores at one grid point, piece by piece: each piece is a block of one of the arrays of Block.lean. -/
module
public import proofs.«01_k».proof.Proof.Block
public import proofs.«01_k».proof.Proof.RunB
public import Idealize.ShloMosaic.Lib.Pipeline.ReadBack
@[expose] public section
set_option maxRecDepth 16384
noncomputable section
namespace Cert.KernelIdeal.Val
open Idealize.ShloMosaic Idealize.ShloMosaic.TcCoe
open Cert.KernelIdeal.Gen
variable {F : FTy → Type} [FloatOps F]

/-- A load of row `n` of a block held whole. -/
theorem load_row {m : Memref sig .tc .vmem S1x24x32x512 .bf16} (h : m.IsWhole) (x0 : Vec F S1x24x32x512 .bf16) (n : ℕ) (hn : n < 24) (inb) :
    View.readAt (Elt F) m.view (Rect.unit (s := S1x24x32x512) ![0, n, 0, 0] S1x1x32x512.size inb).toLoadRect (h.unread x0) = rowAt x0 ⟨n, hn⟩ := by
  rw [View.readAt_eq_ld, h.read_unread]; exact ld_row x0 ⟨n, hn⟩ inb

variable (c : Dev nD) (arg1 : Memref sig .tc .vmem S1x24x32x512 .bf16) (harg1 : arg1.IsWhole) (x0 : Vec F S1x24x32x512 .bf16)

/-- The running maximum over rows 0 to 5. -/
theorem B_r : runB.sl.r c arg1 harg1 x0 = k0_pay16 (rowAt x0 0) (rowAt x0 1) (rowAt x0 2) (rowAt x0 3) (rowAt x0 4) (rowAt x0 5) := by
  unfold runB.sl.r
  congr 1 <;> exact load_row harg1 x0 _ (by decide) _

/-- The running maximum over rows 0 to 13. -/
theorem B_r2 : runB.sl.r_2 c arg1 harg1 x0 = k0_pay18 (k0_pay16 (rowAt x0 0) (rowAt x0 1) (rowAt x0 2) (rowAt x0 3) (rowAt x0 4) (rowAt x0 5)) (k0_pay17 (rowAt x0 6))
    (rowAt x0 7) (rowAt x0 8) (rowAt x0 9) (rowAt x0 10) (rowAt x0 11) (rowAt x0 12) (rowAt x0 13) := by
  unfold runB.sl.r_2 runB.sl.r_1
  rw [B_r, load_row harg1 x0 6 (by decide)]
  congr 1 <;> exact load_row harg1 x0 _ (by decide) _
/-- The running maximum over rows 0 to 20. -/
theorem B_r3 : runB.sl.r_3 c arg1 harg1 x0 = k0_pay19 (runB.sl.r_2 c arg1 harg1 x0)
    (rowAt x0 14) (rowAt x0 15) (rowAt x0 16) (rowAt x0 17) (rowAt x0 18) (rowAt x0 19) (rowAt x0 20) := by
  unfold runB.sl.r_3
  congr 1 <;> exact load_row harg1 x0 _ (by decide) _
/-- The lane maxima. -/
theorem B_r5 : runB.sl.r_5 c arg1 harg1 x0 = amaxRow x0 := by
  unfold runB.sl.r_5 amaxRow runB.sl.r_4
  rw [B_r3, B_r2, load_row harg1 x0 21 (by decide), load_row harg1 x0 22 (by decide), load_row harg1 x0 23 (by decide)]
  rfl
/-- The first 128 lane maxima. -/
theorem B_r6 : runB.sl.r_6 c arg1 harg1 x0 = extractStridedSlice S1x128 ![0, 0] (amaxRow x0) slices_S1x512_o0_0_S1x128 := by
  rw [← B_r5 c arg1 harg1 x0]; rfl
/-- The group maxima. -/
theorem B_amax : runB.sl.r_10 c arg1 harg1 x0 = amax8 x0 := by
  unfold runB.sl.r_10 runB.sl.r_9 runB.sl.r_8 runB.sl.r_7 amax8 spread8
  rw [B_r6, B_r5]; rfl
/-- The scales of the groups. -/
theorem B_scl : runB.sl.r_16 c arg1 harg1 x0 = scl8 (amax8 x0) := by
  rw [← B_amax c arg1 harg1 x0]; rfl
/-- The inverse scales along the lanes. -/
theorem B_invT : runB.sl.r_18 c arg1 harg1 x0 = invT (amax8 x0) := by
  rw [← B_amax c arg1 harg1 x0]; rfl
/-- The scales along the lanes. -/
theorem B_sclT : runB.sl.r_21 c arg1 harg1 x0 = sclT (amax8 x0) := by
  rw [← B_amax c arg1 harg1 x0]; rfl
/-- The inverse scales along the lanes, at the first point. -/
theorem A_invT : runA.sl.r_20 c arg1 harg1 x0 = invT (amax8 x0) := B_invT c arg1 harg1 x0
/-- The scales along the lanes, at the first point. -/
theorem A_sclT : runA.sl.r_23 c arg1 harg1 x0 = sclT (amax8 x0) := B_sclT c arg1 harg1 x0

/-- What is stored as codes is the row of codes. -/
theorem code_eq (n : ℕ) (hn : n < 24) (inb) : k0_pay56 (runB.sl.r_18 c arg1 harg1 x0)
    (View.readAt (Elt F) arg1.view (Rect.unit (s := S1x24x32x512) ![0, n, 0, 0] S1x1x32x512.size inb).toLoadRect (harg1.unread x0)) = codesRow x0 ⟨n, hn⟩ := by
  rw [B_invT, load_row harg1 x0 n hn]; rfl
/-- What is stored in the first stack is the dequantised row. -/
theorem x0_eq (n : ℕ) (hn : n < 24) (inb) : k0_pay58 (runB.sl.r_18 c arg1 harg1 x0) (runB.sl.r_21 c arg1 harg1 x0)
    (View.readAt (Elt F) arg1.view (Rect.unit (s := S1x24x32x512) ![0, n, 0, 0] S1x1x32x512.size inb).toLoadRect (harg1.unread x0)) = x0Row x0 ⟨n, hn⟩ := by
  rw [B_invT, B_sclT, load_row harg1 x0 n hn]; rfl
/-- What is stored in the second stack is the dequantised row moved up. -/
theorem x1_eq (n : ℕ) (hn : n < 24) (inb) : k0_pay59 (runB.sl.r_18 c arg1 harg1 x0) (runB.sl.r_21 c arg1 harg1 x0) k0_pay47
    (View.readAt (Elt F) arg1.view (Rect.unit (s := S1x24x32x512) ![0, n, 0, 0] S1x1x32x512.size inb).toLoadRect (harg1.unread x0)) = x1Row x0 ⟨n, hn⟩ := by
  rw [B_invT, B_sclT, load_row harg1 x0 n hn]; rfl

/-- The stores in the first stack are blocks of the stack of dequantised rows. -/
theorem B_HS1 : View.PiecesOf (stack (x0Row x0)) (runB.sl.HS1_24 c arg1 harg1 x0) := by
  unfold runB.sl.HS1_24
  refine ⟨?_, ?_, ?_, ?_, ?_, ?_, ?_, ?_, ?_, ?_, ?_, ?_, ?_, ?_, ?_, ?_, ?_, ?_, ?_, ?_, ?_, ?_, ?_, ?_, trivial⟩
  all_goals exact stack_piece _ _ _ (by rfl) (by decide) _ (x0_eq c arg1 harg1 x0 _ (by decide) _)
/-- The stores in the second stack are blocks of the stack of rows moved up. -/
theorem B_HS2 : View.PiecesOf (stack (x1Row x0)) (runB.sl.HS2_24 c arg1 harg1 x0) := by
  unfold runB.sl.HS2_24
  refine ⟨?_, ?_, ?_, ?_, ?_, ?_, ?_, ?_, ?_, ?_, ?_, ?_, ?_, ?_, ?_, ?_, ?_, ?_, ?_, ?_, ?_, ?_, ?_, ?_, trivial⟩
  all_goals exact stack_piece _ _ _ (by rfl) (by decide) _ (x1_eq c arg1 harg1 x0 _ (by decide) _)

end Cert.KernelIdeal.Val

end
-- ==== Proof.Loads.lean ====
/- What the kernel's loads of the two stacks and of the scaled weights read, and the chunks of `dx` made from them. -/
module
public import proofs.«01_k».proof.Proof.Pieces
public import Idealize.ShloMosaic.Lib.Ring
@[expose] public section
set_option maxRecDepth 16384
noncomputable section
namespace Cert.KernelIdeal.Val
open Idealize.ShloMosaic Idealize.ShloMosaic.TcCoe
open Cert.KernelIdeal.Gen
variable {F : FTy → Type} [FloatOps F]

/-- Stores that are blocks of `G` over contents that agree with `G` wherever no store reaches leave `G`. -/
theorem read_eq_of_pieces {s : Shape} {e : EltTy} (v : View sig .tc .vmem s e) (f : v.ty.Contents (Elt F)) (L : List (View.Piece (Elt F) s e))
    (G : s.Idx → Elt F e) (hp : View.PiecesOf G L) (hf : ∀ y, (∀ p ∈ L, y ∉ p.1.set) → v.read (Elt F) f y = G y) :
    v.read (Elt F) (v.writes (Elt F) f L) = G := by
  funext y
  by_cases h : ∃ p ∈ L, y ∈ p.1.set
  · rw [View.read_writes_apply_eq_canon v f y L h]; exact View.canon_apply_of_pieces G L hp.mem y h
  · rw [View.read_writes_apply_of_forall_not_mem v f y L fun p hp hy => h ⟨p, hp, hy⟩]
    exact hf y fun p hp hy => h ⟨p, hp, hy⟩

/-- A load of a box that stores which are blocks of `G` cover reads `G` there. -/
theorem readCov_eq_of_pieces {s : Shape} {e : EltTy} (v : View sig .tc .vmem s e) (L : List (View.Piece (Elt F) s e))
    (G : s.Idx → Elt F e) (hp : View.PiecesOf G L) (r : Rect s) (hc : ∀ j, ∃ p ∈ L, r.idx j ∈ p.1.set) :
    v.readCov L r.toLoadRect = View.ld G r := by
  rw [View.readCov_eq_canon']; funext j; exact View.canon_apply_of_pieces G L hp.mem _ (hc j)

/-- The tail of a stack as a piece. -/
abbrev tailPiece (z : FVec F S32x512 .bf16) : View.Piece (Elt F) S800x512 .bf16 :=
  ⟨Rect.unit ![768, 0] S32x512.size (by decide), z⟩

/-- Rows below 768 are covered by stores that tile the stack with its tail. -/
theorem cover_of_tail (L : List (View.Piece (Elt F) S800x512 .bf16)) (z : FVec F S32x512 .bf16)
    (h : View.Piece.tiledL (L ++ [tailPiece z]) ![32, 512] = true) (y : S800x512.Idx) (hy : (y 0).val < 768) : ∃ p ∈ L, y ∈ p.1.set := by
  obtain ⟨p, hp, hm⟩ := View.cover_of_tiledL _ _ h y
  rcases List.mem_append.mp hp with hp | hp
  · exact ⟨p, hp, hm⟩
  · obtain rfl := List.mem_singleton.mp hp
    have : 768 ≤ (y 0).val := ((Rect.mem_set_unit (s := S800x512) (off := ![768, 0]) (size := S32x512.size) (inb := by decide)).mp hm 0).1
    omega

variable (c : Dev nD) (arg1 : Memref sig .tc .vmem S1x24x32x512 .bf16) (harg1 : arg1.IsWhole) (x0 : Vec F S1x24x32x512 .bf16)

/-- The stores in the first stack cover its rows below 768. -/
theorem cover_HS1 (y : S800x512.Idx) (hy : (y 0).val < 768) : ∃ p ∈ runB.sl.HS1_24 c arg1 harg1 x0, y ∈ p.1.set := by
  refine cover_of_tail _ k0_pay14 ?_ y hy
  sl_kernel_rfl
/-- The stores in the second stack cover its rows below 768. -/
theorem cover_HS2 (y : S800x512.Idx) (hy : (y 0).val < 768) : ∃ p ∈ runB.sl.HS2_24 c arg1 harg1 x0, y ∈ p.1.set := by
  refine cover_of_tail _ k0_pay14 ?_ y hy
  sl_kernel_rfl

/-- A load of 256 rows below 768 lies in what covers those rows. -/
theorem cover_rows {L : List (View.Piece (Elt F) S800x512 .bf16)} (hL : ∀ y : S800x512.Idx, (y 0).val < 768 → ∃ p ∈ L, y ∈ p.1.set)
    (n : ℕ) (hn : n + 256 ≤ 768) (inb) (j : (Rect.unit (s := S800x512) ![n, 0] S256x512.size inb).shape.Idx) :
    ∃ p ∈ L, (Rect.unit (s := S800x512) ![n, 0] S256x512.size inb).idx j ∈ p.1.set := by
  refine hL _ ?_
  have h : (j 0).val < 256 := (j 0).isLt
  show n + 1 * (j 0).val < 768
  omega

/-- A load of rows of the first stack. -/
theorem B_rows1 (v : View sig .tc .vmem S800x512 .bf16) (q : Fin 3) (o : Fin 2) (n : ℕ) (hn : n = 256 * q.val + 32 * o.val) (hlt : n + 256 ≤ 768) (inb) :
    v.readCov (runB.sl.HS1_24 c arg1 harg1 x0) (Rect.unit (s := S800x512) ![n, 0] S256x512.size inb).toLoadRect = rowsAt (stack (x0Row x0)) q o :=
  (readCov_eq_of_pieces v _ _ (B_HS1 c arg1 harg1 x0) _ (cover_rows (cover_HS1 c arg1 harg1 x0) n hlt inb)).trans (ld_rows _ q o n hn inb)
/-- A load of rows of the second stack. -/
theorem B_rows2 (v : View sig .tc .vmem S800x512 .bf16) (q : Fin 3) (o : Fin 2) (n : ℕ) (hn : n = 256 * q.val + 32 * o.val) (hlt : n + 256 ≤ 768) (inb) :
    v.readCov (runB.sl.HS2_24 c arg1 harg1 x0) (Rect.unit (s := S800x512) ![n, 0] S256x512.size inb).toLoadRect = rowsAt (stack (x1Row x0)) q o :=
  (readCov_eq_of_pieces v _ _ (B_HS2 c arg1 harg1 x0) _ (cover_rows (cover_HS2 c arg1 harg1 x0) n hlt inb)).trans (ld_rows _ q o n hn inb)

/-- Zero rows from 768 on. -/
def ZeroTail (xs : Vec F S800x512 .bf16) : Prop := ∀ y, 768 ≤ (y 0).val → xs y = FloatOps.ofBits .bf16 0x0000#16

/-- A stack has a zero tail. -/
theorem stack_zeroTail (T : Fin 24 → FVec F S32x512 .bf16) : ZeroTail (stack T) := stack_tail T

/-- The first stack after its stores, over contents whose tail is zero. -/
theorem B_read1 {m : Memref sig .tc .vmem S800x512 .bf16} (h : m.IsWhole) (xs : Vec F S800x512 .bf16) (hz : ZeroTail xs) :
    m.view.read (Elt F) (m.view.writes (Elt F) (h.unread xs) (runB.sl.HS1_24 c arg1 harg1 x0)) = stack (x0Row x0) := by
  refine read_eq_of_pieces _ _ _ _ (B_HS1 c arg1 harg1 x0) fun y hy => ?_
  have h7 : 768 ≤ (y 0).val := by
    by_contra hlt
    obtain ⟨p, hp, hm⟩ := cover_HS1 c arg1 harg1 x0 y (by omega)
    exact hy p hp hm
  rw [h.read_unread, hz y h7, stack_tail _ y h7]
/-- The second stack after its stores, over contents whose tail is zero. -/
theorem B_read2 {m : Memref sig .tc .vmem S800x512 .bf16} (h : m.IsWhole) (xs : Vec F S800x512 .bf16) (hz : ZeroTail xs) :
    m.view.read (Elt F) (m.view.writes (Elt F) (h.unread xs) (runB.sl.HS2_24 c arg1 harg1 x0)) = stack (x1Row x0) := by
  refine read_eq_of_pieces _ _ _ _ (B_HS2 c arg1 harg1 x0) fun y hy => ?_
  have h7 : 768 ≤ (y 0).val := by
    by_contra hlt
    obtain ⟨p, hp, hm⟩ := cover_HS2 c arg1 harg1 x0 y (by omega)
    exact hy p hp hm
  rw [h.read_unread, hz y h7, stack_tail _ y h7]

/-- The even rows of a chunk, from what the loads read. -/
theorem even_of {X0 X1 : Vec F S800x512 .bf16} {W : Vec F S9x256x512 .bf16} {q : Fin 3} {a b : Vec F S256x512 .bf16} {w3 w4 w5 : Vec F S1x256x512 .bf16}
    (ha : a = rowsAt X0 q 0) (hb : b = rowsAt X1 q 0) (h3 : w3 = slab W 3) (h4 : w4 = slab W 4) (h5 : w5 = slab W 5) :
    k0_pay192 (k0_pay188 a w4) (k0_pay189 a w5 b w3) = dxEven X0 X1 W q := by subst ha hb h3 h4 h5; rfl
/-- The odd rows of a chunk, from what the loads read. -/
theorem odd_of {X0 X1 : Vec F S800x512 .bf16} {W : Vec F S9x256x512 .bf16} {q : Fin 3} {a b a' b' : Vec F S256x512 .bf16} {w0 w1 w2 w6 w7 w8 : Vec F S1x256x512 .bf16}
    (ha : a = rowsAt X0 q 0) (hb : b = rowsAt X1 q 0) (ha' : a' = rowsAt X0 q 1) (hb' : b' = rowsAt X1 q 1)
    (h0 : w0 = slab W 0) (h1 : w1 = slab W 1) (h2 : w2 = slab W 2) (h6 : w6 = slab W 6) (h7 : w7 = slab W 7) (h8 : w8 = slab W 8) :
    k0_pay203 (k0_pay190 a w7 a' w1) (k0_pay191 a w8 b w6 a' w2 b' w0) = dxOdd X0 X1 W q := by subst ha hb ha' hb' h0 h1 h2 h6 h7 h8; rfl

section
variable (arg7 : Memref sig .tc .vmem S9x256x512 .bf16) (harg7 : arg7.IsWhole) (arg8 : Memref sig .tc .vmem S800x512 .bf16) (harg8 : arg8.IsWhole)
  (arg9 : Memref sig .tc .vmem S800x512 .bf16) (harg9 : arg9.IsWhole) (xs0 : Vec F S9x256x512 .bf16) (xs1 xs2 : Vec F S800x512 .bf16)

/-- A load of slab `k` of weights held whole. -/
theorem load_slab (k : ℕ) (hk : k < 9) (inb) : View.readAt (Elt F) arg7.view (Rect.unit (s := S9x256x512) ![k, 0, 0] S1x256x512.size inb).toLoadRect (harg7.unread xs0)
    = slab xs0 ⟨k, hk⟩ := by
  rw [View.readAt_eq_ld, harg7.read_unread]; exact ld_slab xs0 ⟨k, hk⟩ inb

/-- The even rows of chunk 0. -/
theorem B_even0 : runB.sl.r_57 c arg1 harg1 arg7 harg7 arg8 arg9 x0 xs0 = dxEven (stack (x0Row x0)) (stack (x1Row x0)) xs0 0 :=
  even_of (B_rows1 c arg1 harg1 x0 _ 0 0 _ rfl (by decide) _) (B_rows2 c arg1 harg1 x0 _ 0 0 _ rfl (by decide) _) (load_slab arg7 harg7 xs0 _ (by decide) _) (load_slab arg7 harg7 xs0 _ (by decide) _) (load_slab arg7 harg7 xs0 _ (by decide) _)
/-- The even rows of chunk 1. -/
theorem B_even1 : runB.sl.r_68 c arg1 harg1 arg7 harg7 arg8 arg9 x0 xs0 = dxEven (stack (x0Row x0)) (stack (x1Row x0)) xs0 1 :=
  even_of (B_rows1 c arg1 harg1 x0 _ 1 0 _ rfl (by decide) _) (B_rows2 c arg1 harg1 x0 _ 1 0 _ rfl (by decide) _) (load_slab arg7 harg7 xs0 _ (by decide) _) (load_slab arg7 harg7 xs0 _ (by decide) _) (load_slab arg7 harg7 xs0 _ (by decide) _)
/-- The even rows of chunk 2. -/
theorem B_even2 : runB.sl.r_79 c arg1 harg1 arg7 harg7 arg8 arg9 x0 xs0 = dxEven (stack (x0Row x0)) (stack (x1Row x0)) xs0 2 :=
  even_of (B_rows1 c arg1 harg1 x0 _ 2 0 _ rfl (by decide) _) (B_rows2 c arg1 harg1 x0 _ 2 0 _ rfl (by decide) _) (load_slab arg7 harg7 xs0 _ (by decide) _) (load_slab arg7 harg7 xs0 _ (by decide) _) (load_slab arg7 harg7 xs0 _ (by decide) _)
/-- The odd rows of chunk 0. -/
theorem B_odd0 : runB.sl.r_60 c arg1 harg1 arg7 harg7 arg8 arg9 x0 xs0 = dxOdd (stack (x0Row x0)) (stack (x1Row x0)) xs0 0 :=
  odd_of (B_rows1 c arg1 harg1 x0 _ 0 0 _ rfl (by decide) _) (B_rows2 c arg1 harg1 x0 _ 0 0 _ rfl (by decide) _) (B_rows1 c arg1 harg1 x0 _ 0 1 _ rfl (by decide) _) (B_rows2 c arg1 harg1 x0 _ 0 1 _ rfl (by decide) _) (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _)
/-- The odd rows of chunk 1. -/
theorem B_odd1 : runB.sl.r_70 c arg1 harg1 arg7 harg7 arg8 arg9 x0 xs0 = dxOdd (stack (x0Row x0)) (stack (x1Row x0)) xs0 1 :=
  odd_of (B_rows1 c arg1 harg1 x0 _ 1 0 _ rfl (by decide) _) (B_rows2 c arg1 harg1 x0 _ 1 0 _ rfl (by decide) _) (B_rows1 c arg1 harg1 x0 _ 1 1 _ rfl (by decide) _) (B_rows2 c arg1 harg1 x0 _ 1 1 _ rfl (by decide) _) (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _)
/-- The odd rows of chunk 2: its last loads reach into the zero rows. -/
theorem B_odd2 (hz1 : ZeroTail xs1) (hz2 : ZeroTail xs2) :
    runB.sl.r_80 c arg1 harg1 arg7 harg7 arg8 harg8 arg9 harg9 x0 xs0 xs1 xs2 = dxOdd (stack (x0Row x0)) (stack (x1Row x0)) xs0 2 := by
  have r1 : View.readAt (Elt F) arg8.view (Rect.unit (s := S800x512) ![544, 0] S256x512.size (by decide)).toLoadRect (arg8.view.writes (Elt F) (harg8.unread xs1) (runB.sl.HS1_24 c arg1 harg1 x0))
      = rowsAt (stack (x0Row x0)) 2 1 := by
    rw [View.readAt_eq_ld, B_read1 c arg1 harg1 x0 harg8 xs1 hz1]; exact ld_rows _ 2 1 544 rfl _
  have r2 : View.readAt (Elt F) arg9.view (Rect.unit (s := S800x512) ![544, 0] S256x512.size (by decide)).toLoadRect (arg9.view.writes (Elt F) (harg9.unread xs2) (runB.sl.HS2_24 c arg1 harg1 x0))
      = rowsAt (stack (x1Row x0)) 2 1 := by
    rw [View.readAt_eq_ld, B_read2 c arg1 harg1 x0 harg9 xs2 hz2]; exact ld_rows _ 2 1 544 rfl _
  exact odd_of (B_rows1 c arg1 harg1 x0 _ 2 0 _ rfl (by decide) _) (B_rows2 c arg1 harg1 x0 _ 2 0 _ rfl (by decide) _) r1 r2 (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _) (load_slab arg7 harg7 xs0 _ (by decide) _)
end

/-- One slab of eight rows, as it is stored, from the rows. -/
theorem slice_of {T G : FVec F S8x64x256 .bf16} (hT : T = G) (n : ℕ) (hn : n < 8) (h : S8x64x256.Slices ![n, 0, 0] S1x64x256) :
    shapeCast S1x1x64x256 (shapeCast S64x256 (extractStridedSlice S1x64x256 ![n, 0, 0] T h) shapeCasts_S1x64x256_S64x256) shapeCasts_S64x256_S1x1x64x256 = dxSlice G ⟨n, hn⟩ := by
  subst hT; exact dxSlice_eq T ⟨n, hn⟩ h

/-- At the first point the first stack gets the same stores, after its zero tail. -/
theorem A_HS1_eq : runA.sl.HS1_25 c arg1 harg1 x0 = runB.sl.HS1_24 c arg1 harg1 x0 ++ [tailPiece k0_pay14] := rfl
/-- At the first point the second stack gets the same stores, after its zero tail. -/
theorem A_HS2_eq : runA.sl.HS2_25 c arg1 harg1 x0 = runB.sl.HS2_24 c arg1 harg1 x0 ++ [tailPiece k0_pay15] := rfl

end Cert.KernelIdeal.Val

end
-- ==== Proof.StoresB.lean ====
/- What is stored as codes and as `dx` at the points after the first. -/
module
public import proofs.«01_k».proof.Proof.Loads
@[expose] public section
set_option maxRecDepth 16384
noncomputable section
namespace Cert.KernelIdeal.Val
open Idealize.ShloMosaic Idealize.ShloMosaic.TcCoe
open Cert.KernelIdeal.Gen
variable {F : FTy → Type} [FloatOps F]

section
variable (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : ¬cond0_0 i)
    (x0 : Vec F S1x24x32x512 .bf16) (x1 : Vec F S3x3x256x512 .fp8e4m3) (x2 : Vec F S1x512 .f32) (x5 : Vec F S40x8 .f32) (xs0 : Vec F S9x256x512 .bf16) (xs1 xs2 : Vec F S800x512 .bf16)

/-- The stores of codes are blocks of the codes. -/
theorem B_codes : View.PiecesOf (codes x0) (runB c i arg1 harg1 arg2 harg2 arg3 harg3 arg4 harg4 arg5 harg5 arg6 harg6 arg7 harg7 arg8 harg8 arg9 harg9 hc0 x0 x1 x2 x5 xs0 xs1 xs2).2.1 := by
  refine ⟨?_, ?_, ?_, ?_, ?_, ?_, ?_, ?_, ?_, ?_, ?_, ?_, ?_, ?_, ?_, ?_, ?_, ?_, ?_, ?_, ?_, ?_, ?_, ?_, trivial⟩
  all_goals exact codes_piece x0 _ (by decide) (by decide) _ (code_eq c arg1 harg1 x0 _ (by decide) (by decide))
/-- The stores of `dx` are blocks of `dx`. -/
theorem B_dx (hz1 : ZeroTail xs1) (hz2 : ZeroTail xs2) : View.PiecesOf (dxOf (stack (x0Row x0)) (stack (x1Row x0)) xs0) (runB c i arg1 harg1 arg2 harg2 arg3 harg3 arg4 harg4 arg5 harg5 arg6 harg6 arg7 harg7 arg8 harg8 arg9 harg9 hc0 x0 x1 x2 x5 xs0 xs1 xs2).1 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 8 exact dx_piece_odd _ _ _ 2 ⟨_, by decide⟩ _ (by rfl) (by decide) _ (slice_of (B_odd2 c arg1 harg1 x0 arg7 harg7 arg8 harg8 arg9 harg9 xs0 xs1 xs2 hz1 hz2) _ (by decide) (by decide))
  iterate 8 exact dx_piece_even _ _ _ 2 ⟨_, by decide⟩ _ (by rfl) (by decide) _ (slice_of (B_even2 c arg1 harg1 x0 arg7 harg7 arg8 arg9 xs0) _ (by decide) (by decide))
  iterate 8 exact dx_piece_odd _ _ _ 1 ⟨_, by decide⟩ _ (by rfl) (by decide) _ (slice_of (B_odd1 c arg1 harg1 x0 arg7 harg7 arg8 arg9 xs0) _ (by decide) (by decide))
  iterate 8 exact dx_piece_even _ _ _ 1 ⟨_, by decide⟩ _ (by rfl) (by decide) _ (slice_of (B_even1 c arg1 harg1 x0 arg7 harg7 arg8 arg9 xs0) _ (by decide) (by decide))
  iterate 8 exact dx_piece_odd _ _ _ 0 ⟨_, by decide⟩ _ (by rfl) (by decide) _ (slice_of (B_odd0 c arg1 harg1 x0 arg7 harg7 arg8 arg9 xs0) _ (by decide) (by decide))
  iterate 8 exact dx_piece_even _ _ _ 0 ⟨_, by decide⟩ _ (by rfl) (by decide) _ (slice_of (B_even0 c arg1 harg1 x0 arg7 harg7 arg8 arg9 xs0) _ (by decide) (by decide))
end
end Cert.KernelIdeal.Val
-- ==== Proof.StoresA.lean ====
/- What is stored at the first point: the scaled weights, the stacks with their zero tails, codes and `dx`. -/
module
public import proofs.«01_k».proof.Proof.StoresB
@[expose] public section
set_option maxRecDepth 16384
noncomputable section
namespace Cert.KernelIdeal.Val
open Idealize.ShloMosaic Idealize.ShloMosaic.TcCoe
open Cert.KernelIdeal.Gen
variable {F : FTy → Type} [FloatOps F]

/-- Pieces of a list put before another. -/
theorem pieces_append {s : Shape} {e : EltTy} (G : s.Idx → Elt F e) : ∀ (L M : List (View.Piece (Elt F) s e)), View.PiecesOf G L → View.PiecesOf G M → View.PiecesOf G (L ++ M)
  | [], _, _, hM => hM
  | _ :: L, M, hL, hM => ⟨hL.1, pieces_append G L M hL.2 hM⟩

/-- Zeros stored from row 768 on are the tail of a stack. -/
theorem tail_piece (T : Fin 24 → FVec F S32x512 .bf16) (x : (Rect.unit (s := S800x512) ![768, 0] S32x512.size (by decide)).shape.Idx) :
    (k0_pay14 (F := F)) x = stack T ((Rect.unit (s := S800x512) ![768, 0] S32x512.size (by decide)).emb x) := by
  rw [stack_tail T _ (by show 768 ≤ 768 + 1 * (x 0).val; omega)]; rfl

section
variable (c : Dev nD) (arg1 : Memref sig .tc .vmem S1x24x32x512 .bf16) (harg1 : arg1.IsWhole) (x0 : Vec F S1x24x32x512 .bf16)

/-- The stores in stack 1 at the first point are blocks of the stack. -/
theorem A_HS1 : View.PiecesOf (stack (x0Row x0)) (runA.sl.HS1_25 c arg1 harg1 x0) := by
  rw [A_HS1_eq]
  exact pieces_append _ _ _ (B_HS1 c arg1 harg1 x0) ⟨tail_piece _, trivial⟩
/-- The stores in stack 1 at the first point cover it. -/
theorem cover_A1 (y : S800x512.Idx) : ∃ p ∈ runA.sl.HS1_25 c arg1 harg1 x0, y ∈ p.1.set := by
  refine View.cover_of_tiledL _ ![32, 512] ?_ y
  sl_kernel_rfl
/-- A load of rows of stack 1 at the first point. -/
theorem A_rows1 (v : View sig .tc .vmem S800x512 .bf16) (q : Fin 3) (o : Fin 2) (n : ℕ) (hn : n = 256 * q.val + 32 * o.val) (hlt : n + 256 ≤ 800) (inb) :
    v.readCov (runA.sl.HS1_25 c arg1 harg1 x0) (Rect.unit (s := S800x512) ![n, 0] S256x512.size inb).toLoadRect = rowsAt (stack (x0Row x0)) q o :=
  (readCov_eq_of_pieces v _ _ (A_HS1 c arg1 harg1 x0) _ fun j => cover_A1 c arg1 harg1 x0 _).trans (ld_rows _ q o n hn inb)
/-- The stores in stack 2 at the first point are blocks of the stack. -/
theorem A_HS2 : View.PiecesOf (stack (x1Row x0)) (runA.sl.HS2_25 c arg1 harg1 x0) := by
  rw [A_HS2_eq]
  exact pieces_append _ _ _ (B_HS2 c arg1 harg1 x0) ⟨tail_piece _, trivial⟩
/-- The stores in stack 2 at the first point cover it. -/
theorem cover_A2 (y : S800x512.Idx) : ∃ p ∈ runA.sl.HS2_25 c arg1 harg1 x0, y ∈ p.1.set := by
  refine View.cover_of_tiledL _ ![32, 512] ?_ y
  sl_kernel_rfl
/-- A load of rows of stack 2 at the first point. -/
theorem A_rows2 (v : View sig .tc .vmem S800x512 .bf16) (q : Fin 3) (o : Fin 2) (n : ℕ) (hn : n = 256 * q.val + 32 * o.val) (hlt : n + 256 ≤ 800) (inb) :
    v.readCov (runA.sl.HS2_25 c arg1 harg1 x0) (Rect.unit (s := S800x512) ![n, 0] S256x512.size inb).toLoadRect = rowsAt (stack (x1Row x0)) q o :=
  (readCov_eq_of_pieces v _ _ (A_HS2 c arg1 harg1 x0) _ fun j => cover_A2 c arg1 harg1 x0 _).trans (ld_rows _ q o n hn inb)
end

section
variable (c : Dev nD) (arg2 : Memref sig .tc .vmem S3x3x256x512 .fp8e4m3) (harg2 : arg2.IsWhole) (arg3 : Memref sig .tc .vmem S1x512 .f32) (harg3 : arg3.IsWhole)
  (x1 : Vec F S3x3x256x512 .fp8e4m3) (x2 : Vec F S1x512 .f32)

/-- What is stored as slab `n` of the weights is the tap times its scale. -/
theorem wts_eq (a b n : ℕ) (hn : n < 9) (ha : a = n / 3) (hb : b = n % 3) (i2 i3) :
    k0_pay4 (View.readAt (Elt F) arg3.view (Rect.unit (s := S1x512) ![0, 0] S1x512.size i3).toLoadRect (harg3.unread x2))
      (View.readAt (Elt F) arg2.view (Rect.unit (s := S3x3x256x512) ![a, b, 0, 0] S1x1x256x512.size i2).toLoadRect (harg2.unread x1)) = k0_pay4 x2 (tapAt x1 ⟨n, hn⟩) := by
  have e3 : View.readAt (Elt F) arg3.view (Rect.unit (s := S1x512) ![0, 0] S1x512.size i3).toLoadRect (harg3.unread x2) = x2 := by
    rw [View.readAt_eq_ld, harg3.read_unread]
    funext x
    refine View.ld_unit_apply_of _ _ _ _ _ _ fun d => ?_
    match d with
    | ⟨0, _⟩ => exact (Nat.zero_add _).symm
    | ⟨1, _⟩ => exact (Nat.zero_add _).symm
  rw [e3, View.readAt_eq_ld, harg2.read_unread]
  exact congrArg _ (ld_tap x1 ⟨n, hn⟩ a b ha hb i2)

/-- The stores of the scaled weights are slabs of them. -/
theorem A_HS0 : View.PiecesOf (wts x1 x2) (runA.sl.HS0_9 c arg2 harg2 arg3 harg3 x1 x2) := by
  unfold runA.sl.HS0_9
  refine ⟨?_, ?_, ?_, ?_, ?_, ?_, ?_, ?_, ?_, trivial⟩
  all_goals exact wts_piece x1 x2 _ (by decide) (by decide) _ (wts_eq arg2 harg2 arg3 harg3 x1 x2 _ _ _ (by decide) (by rfl) (by rfl) _ _)
/-- The stores of the scaled weights cover them. -/
theorem cover_A0 (y : S9x256x512.Idx) : ∃ p ∈ runA.sl.HS0_9 c arg2 harg2 arg3 harg3 x1 x2, y ∈ p.1.set := by
  refine View.cover_of_tiledL _ ![1, 256, 512] ?_ y
  sl_kernel_rfl
/-- A load of a slab of the scaled weights at the first point. -/
theorem A_slab (v : View sig .tc .vmem S9x256x512 .bf16) (k : ℕ) (hk : k < 9) (inb) :
    v.readCov (runA.sl.HS0_9 c arg2 harg2 arg3 harg3 x1 x2) (Rect.unit (s := S9x256x512) ![k, 0, 0] S1x256x512.size inb).toLoadRect = slab (wts x1 x2) ⟨k, hk⟩ :=
  (readCov_eq_of_pieces v _ _ (A_HS0 c arg2 harg2 arg3 harg3 x1 x2) _ fun j => cover_A0 c arg2 harg2 arg3 harg3 x1 x2 _).trans (ld_slab _ ⟨k, hk⟩ inb)
end

section
variable (c : Dev nD) (arg1 : Memref sig .tc .vmem S1x24x32x512 .bf16) (harg1 : arg1.IsWhole) (x0 : Vec F S1x24x32x512 .bf16) (arg2 : Memref sig .tc .vmem S3x3x256x512 .fp8e4m3) (harg2 : arg2.IsWhole) (arg3 : Memref sig .tc .vmem S1x512 .f32) (harg3 : arg3.IsWhole)
  (x1 : Vec F S3x3x256x512 .fp8e4m3) (x2 : Vec F S1x512 .f32) (arg7 : Memref sig .tc .vmem S9x256x512 .bf16) (arg8 arg9 : Memref sig .tc .vmem S800x512 .bf16)

/-- The even rows of chunk 0, at the first point. -/
theorem A_even0 : runA.sl.r_59 c arg1 harg1 arg2 harg2 arg3 harg3 arg7 arg8 arg9 x0 x1 x2 = dxEven (stack (x0Row x0)) (stack (x1Row x0)) (wts x1 x2) 0 :=
  even_of (A_rows1 c arg1 harg1 x0 _ 0 0 _ rfl (by decide) _) (A_rows2 c arg1 harg1 x0 _ 0 0 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
/-- The even rows of chunk 1, at the first point. -/
theorem A_even1 : runA.sl.r_70 c arg1 harg1 arg2 harg2 arg3 harg3 arg7 arg8 arg9 x0 x1 x2 = dxEven (stack (x0Row x0)) (stack (x1Row x0)) (wts x1 x2) 1 :=
  even_of (A_rows1 c arg1 harg1 x0 _ 1 0 _ rfl (by decide) _) (A_rows2 c arg1 harg1 x0 _ 1 0 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
/-- The even rows of chunk 2, at the first point. -/
theorem A_even2 : runA.sl.r_80 c arg1 harg1 arg2 harg2 arg3 harg3 arg7 arg8 arg9 x0 x1 x2 = dxEven (stack (x0Row x0)) (stack (x1Row x0)) (wts x1 x2) 2 :=
  even_of (A_rows1 c arg1 harg1 x0 _ 2 0 _ rfl (by decide) _) (A_rows2 c arg1 harg1 x0 _ 2 0 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
/-- The odd rows of chunk 0, at the first point. -/
theorem A_odd0 : runA.sl.r_62 c arg1 harg1 arg2 harg2 arg3 harg3 arg7 arg8 arg9 x0 x1 x2 = dxOdd (stack (x0Row x0)) (stack (x1Row x0)) (wts x1 x2) 0 :=
  odd_of (A_rows1 c arg1 harg1 x0 _ 0 0 _ rfl (by decide) _) (A_rows2 c arg1 harg1 x0 _ 0 0 _ rfl (by decide) _) (A_rows1 c arg1 harg1 x0 _ 0 1 _ rfl (by decide) _) (A_rows2 c arg1 harg1 x0 _ 0 1 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
/-- The odd rows of chunk 1, at the first point. -/
theorem A_odd1 : runA.sl.r_72 c arg1 harg1 arg2 harg2 arg3 harg3 arg7 arg8 arg9 x0 x1 x2 = dxOdd (stack (x0Row x0)) (stack (x1Row x0)) (wts x1 x2) 1 :=
  odd_of (A_rows1 c arg1 harg1 x0 _ 1 0 _ rfl (by decide) _) (A_rows2 c arg1 harg1 x0 _ 1 0 _ rfl (by decide) _) (A_rows1 c arg1 harg1 x0 _ 1 1 _ rfl (by decide) _) (A_rows2 c arg1 harg1 x0 _ 1 1 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
/-- The odd rows of chunk 2, at the first point. -/
theorem A_odd2 : runA.sl.r_81 c arg1 harg1 arg2 harg2 arg3 harg3 arg7 arg8 arg9 x0 x1 x2 = dxOdd (stack (x0Row x0)) (stack (x1Row x0)) (wts x1 x2) 2 :=
  odd_of (A_rows1 c arg1 harg1 x0 _ 2 0 _ rfl (by decide) _) (A_rows2 c arg1 harg1 x0 _ 2 0 _ rfl (by decide) _) (A_rows1 c arg1 harg1 x0 _ 2 1 _ rfl (by decide) _) (A_rows2 c arg1 harg1 x0 _ 2 1 _ rfl (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _) (A_slab c arg2 harg2 arg3 harg3 x1 x2 _ _ (by decide) _)
end

section
variable (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : cond0_0 i)
    (x0 : Vec F S1x24x32x512 .bf16) (x1 : Vec F S3x3x256x512 .fp8e4m3) (x2 : Vec F S1x512 .f32) (x5 : Vec F S40x8 .f32)

/-- The stores of codes are blocks of the codes, at the first point. -/
theorem A_codes : View.PiecesOf (codes x0) (runA c i arg1 harg1 arg2 harg2 arg3 harg3 arg4 harg4 arg5 harg5 arg6 harg6 arg7 harg7 arg8 harg8 arg9 harg9 hc0 x0 x1 x2 x5).2.1 := by
  refine ⟨?_, ?_, ?_, ?_, ?_, ?_, ?_, ?_, ?_, ?_, ?_, ?_, ?_, ?_, ?_, ?_, ?_, ?_, ?_, ?_, ?_, ?_, ?_, ?_, trivial⟩
  all_goals exact codes_piece x0 _ (by decide) (by decide) _ (code_eq c arg1 harg1 x0 _ (by decide) (by decide))
/-- The stores of `dx` are blocks of `dx`, at the first point. -/
theorem A_dx : View.PiecesOf (dxOf (stack (x0Row x0)) (stack (x1Row x0)) (wts x1 x2)) (runA c i arg1 harg1 arg2 harg2 arg3 harg3 arg4 harg4 arg5 harg5 arg6 harg6 arg7 harg7 arg8 harg8 arg9 harg9 hc0 x0 x1 x2 x5).1 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 8 exact dx_piece_odd _ _ _ 2 ⟨_, by decide⟩ _ (by rfl) (by decide) _ (slice_of (A_odd2 c arg1 harg1 x0 arg2 harg2 arg3 harg3 x1 x2 arg7 arg8 arg9) _ (by decide) (by decide))
  iterate 8 exact dx_piece_even _ _ _ 2 ⟨_, by decide⟩ _ (by rfl) (by decide) _ (slice_of (A_even2 c arg1 harg1 x0 arg2 harg2 arg3 harg3 x1 x2 arg7 arg8 arg9) _ (by decide) (by decide))
  iterate 8 exact dx_piece_odd _ _ _ 1 ⟨_, by decide⟩ _ (by rfl) (by decide) _ (slice_of (A_odd1 c arg1 harg1 x0 arg2 harg2 arg3 harg3 x1 x2 arg7 arg8 arg9) _ (by decide) (by decide))
  iterate 8 exact dx_piece_even _ _ _ 1 ⟨_, by decide⟩ _ (by rfl) (by decide) _ (slice_of (A_even1 c arg1 harg1 x0 arg2 harg2 arg3 harg3 x1 x2 arg7 arg8 arg9) _ (by decide) (by decide))
  iterate 8 exact dx_piece_odd _ _ _ 0 ⟨_, by decide⟩ _ (by rfl) (by decide) _ (slice_of (A_odd0 c arg1 harg1 x0 arg2 harg2 arg3 harg3 x1 x2 arg7 arg8 arg9) _ (by decide) (by decide))
  iterate 8 exact dx_piece_even _ _ _ 0 ⟨_, by decide⟩ _ (by rfl) (by decide) _ (slice_of (A_even0 c arg1 harg1 x0 arg2 harg2 arg3 harg3 x1 x2 arg7 arg8 arg9) _ (by decide) (by decide))
end
end Cert.KernelIdeal.Val
-- ==== Proof.Body.lean ====
/- The kernel's body at one point: what it leaves in the outputs' blocks and in the scratch buffers. -/
module
public import proofs.«01_k».proof.Proof.StoresA
public import proofs.«01_k».proof.Proof.RunA
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F]

/-- A buffer held at contents that read as `G` is held at `G`. -/
theorem owns_of_read (c : Dev nD) {s : Shape} {e : EltTy} (a : Memref sig .tc .vmem s e) (f : a.view.ty.Contents (Elt F)) (G : s.Idx → Elt F e) (h : a.view.read (Elt F) f = G) :
    ((a.view.loc (c : Thread nD τ) ↦[a.view.set]{fullShare} f) : sProp (MT nD τ sig Unit (Elt F) ℕ (UR sig nD τ) ℕ)) ⊢ owns (c : Thread nD τ) a fullShare G := by
  unfold owns; iintro H; iexists f; isplitr
  · ipureintro; exact h
  · iexact H

/-- Stores that are blocks of `G` and cover it leave `G`. -/
theorem read_eq_of_cover {s : Shape} {e : EltTy} (v : View sig .tc .vmem s e) (f : v.ty.Contents (Elt F)) (L : List (View.Piece (Elt F) s e))
    (G : s.Idx → Elt F e) (hp : View.PiecesOf G L) (hc : ∀ y, ∃ p ∈ L, y ∈ p.1.set) : v.read (Elt F) (v.writes (Elt F) f L) = G :=
  read_eq_of_pieces v f L G hp fun y hy => absurd (hc y) fun ⟨p, hp, hm⟩ => hy p hp hm

/-- `X` with row `b` replaced. -/
def setRow (X : Vec F S40x8 .f32) (b : ℕ) (R : Vec F S1x8 .f32) : Vec F S40x8 .f32 := fun y => if (y 0).val = b then R (ix2 0 (y 1)) else X y

/-- The row of scales is stored at the point's own row. -/
theorem off1_eq (i : grid0.Coords) : k0_off1 i = ![(i 0).val, 0] := by
  have h : (i 0).val < 40 := (i 0).isLt
  have e : (Scalar.indexCast (BitVec.ofNat 32 (i 0).val) : Index).toNat = (i 0).val := by
    show (BitVec.ofNat 32 (i 0).val).toNat = _
    rw [BitVec.toNat_ofNat]; omega
  unfold k0_off1
  funext a
  match a with
  | ⟨0, _⟩ => exact e
  | ⟨1, _⟩ => rfl

/-- The stored row is a block of the array with that row replaced. -/
theorem scale_piece (x5 : Vec F S40x8 .f32) (i : grid0.Coords) (w R : Vec F S1x8 .f32) (hw : w = R)
    (x : (Rect.unit (s := S40x8) (k0_off1 i) S1x8.size (k0_off1_inb i)).shape.Idx) :
    w x = setRow x5 (i 0).val R ((Rect.unit (s := S40x8) (k0_off1 i) S1x8.size (k0_off1_inb i)).emb x) := by
  subst hw
  have h0 : (x 0).val = 0 := Nat.lt_one_iff.mp (x 0).isLt
  have o0 : k0_off1 i 0 = (i 0).val := by rw [off1_eq]; rfl
  have o1 : k0_off1 i 1 = 0 := by rw [off1_eq]; rfl
  unfold setRow
  rw [if_pos (by show k0_off1 i 0 + 1 * (x 0).val = _; omega)]
  refine congrArg w ?_
  funext a; apply Fin.ext
  match a with
  | ⟨0, _⟩ => exact h0
  | ⟨1, _⟩ => show (x 1).val = k0_off1 i 1 + 1 * (x 1).val; omega

/-- The scales after the one store. -/
theorem read_row {a : Memref sig .tc .vmem S40x8 .f32} (ha : a.IsWhole) (x5 : Vec F S40x8 .f32) (i : grid0.Coords) (R : Vec F S1x8 .f32)
    (L : List (View.Piece (Elt F) S40x8 .f32)) (hp : View.PiecesOf (setRow x5 (i 0).val R) L)
    (hL : L.map (fun p => p.1) = [Rect.unit (s := S40x8) (k0_off1 i) S1x8.size (k0_off1_inb i)]) :
    a.view.read (Elt F) (a.view.writes (Elt F) (ha.unread x5) L) = setRow x5 (i 0).val R := by
  refine read_eq_of_pieces _ _ _ _ hp fun y hy => ?_
  rw [ha.read_unread]
  unfold setRow
  have hm : Rect.unit (s := S40x8) (k0_off1 i) S1x8.size (k0_off1_inb i) ∈ L.map (fun p => p.1) := by rw [hL]; exact List.mem_singleton.mpr rfl
  obtain ⟨p, hpL, hpe⟩ := List.mem_map.mp hm
  rw [if_neg]
  intro he
  refine hy p hpL ?_
  rw [hpe, Rect.mem_set_unit]
  have o0 : k0_off1 i 0 = (i 0).val := by rw [off1_eq]; rfl
  have o1 : k0_off1 i 1 = 0 := by rw [off1_eq]; rfl
  intro d
  match d with
  | ⟨0, _⟩ => exact ⟨by show k0_off1 i 0 ≤ (y 0).val; omega, by show (y 0).val < k0_off1 i 0 + 1; omega⟩
  | ⟨1, _⟩ => exact ⟨by show k0_off1 i 1 ≤ (y 1).val; omega, by show (y 1).val < k0_off1 i 1 + 8; have : (y 1).val < 8 := (y 1).isLt; omega⟩

section
variable (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : cond0_0 i)
    (x0 : Vec F S1x24x32x512 .bf16) (x1 : Vec F S3x3x256x512 .fp8e4m3) (x2 : Vec F S1x512 .f32) (x5 : Vec F S40x8 .f32)
include hc0
/-- The stores of `dx` cover the block. -/
theorem A_cover_dx (y : S1x48x64x256.Idx) : ∃ p ∈ (runA c i arg1 harg1 arg2 harg2 arg3 harg3 arg4 harg4 arg5 harg5 arg6 harg6 arg7 harg7 arg8 harg8 arg9 harg9 hc0 x0 x1 x2 x5).1, y ∈ p.1.set := by
  refine View.cover_of_tiledL _ ![1, 1, 64, 256] ?_ y
  sl_kernel_rfl
/-- The stores of codes cover the block. -/
theorem A_cover_codes (y : S1x24x32x512.Idx) : ∃ p ∈ (runA c i arg1 harg1 arg2 harg2 arg3 harg3 arg4 harg4 arg5 harg5 arg6 harg6 arg7 harg7 arg8 harg8 arg9 harg9 hc0 x0 x1 x2 x5).2.1, y ∈ p.1.set := by
  refine View.cover_of_tiledL _ ![1, 1, 32, 512] ?_ y
  sl_kernel_rfl
/-- The store of scales is a row. -/
theorem A_scale : View.PiecesOf (setRow x5 (i 0).val (scaleRow x0)) (runA c i arg1 harg1 arg2 harg2 arg3 harg3 arg4 harg4 arg5 harg5 arg6 harg6 arg7 harg7 arg8 harg8 arg9 harg9 hc0 x0 x1 x2 x5).2.2.1 := by
  refine ⟨?_, trivial⟩
  exact scale_piece x5 i _ _ ((congrArg k0_pay41 (B_scl c arg1 harg1 x0)))
/-- The body at the first point, from any contents of the scratch buffers. -/
theorem A_body (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (iprop(owns (c : Thread nD τ) arg1 fullShare x0 ∗ owns (c : Thread nD τ) arg2 fullShare x1 ∗ owns (c : Thread nD τ) arg3 fullShare x2 ∗ owns (c : Thread nD τ) arg4 fullShare (dxOf (stack (x0Row x0)) (stack (x1Row x0)) (wts x1 x2)) ∗ owns (c : Thread nD τ) arg5 fullShare (codes x0) ∗ owns (c : Thread nD τ) arg6 fullShare (setRow x5 (i 0).val (scaleRow x0)) ∗ owns (c : Thread nD τ) arg7 fullShare (wts x1 x2) ∗ owns (c : Thread nD τ) arg8 fullShare (stack (x0Row x0)) ∗ owns (c : Thread nD τ) arg9 fullShare (stack (x1Row x0))) -∗ K ⟨⟩))
      ⊢ wp frame (wpE (defs₀ (F := F)) Variants.none c none) E (cc0_dgrad i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((runA c i arg1 harg1 arg2 harg2 arg3 harg3 arg4 harg4 arg5 harg5 arg6 harg6 arg7 harg7 arg8 harg8 arg9 harg9 hc0 x0 x1 x2 x5).2.2.2.2.2.property E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, ⟨%f3, H3⟩, ⟨%f4, H4⟩, H5, HS0, HS1, HS2⟩
  icases HS0 with ⟨%f7, HS0⟩
  icases HS1 with ⟨%f8, HS1⟩
  icases HS2 with ⟨%f9, HS2⟩
  iapply Hk
  isplitl [H0]; · iexact H0
  isplitl [H1]; · iexact H1
  isplitl [H2]; · iexact H2
  isplitl [H3]
  · iapply (owns_of_read c arg4 _ _ (read_eq_of_cover arg4.view _ _ _ (A_dx c i arg1 harg1 arg2 harg2 arg3 harg3 arg4 harg4 arg5 harg5 arg6 harg6 arg7 harg7 arg8 harg8 arg9 harg9 hc0 x0 x1 x2 x5) (A_cover_dx c i arg1 harg1 arg2 harg2 arg3 harg3 arg4 harg4 arg5 harg5 arg6 harg6 arg7 harg7 arg8 harg8 arg9 harg9 hc0 x0 x1 x2 x5)))
    iexact H3
  isplitl [H4]
  · iapply (owns_of_read c arg5 _ _ (read_eq_of_cover arg5.view _ _ _ (A_codes c i arg1 harg1 arg2 harg2 arg3 harg3 arg4 harg4 arg5 harg5 arg6 harg6 arg7 harg7 arg8 harg8 arg9 harg9 hc0 x0 x1 x2 x5) (A_cover_codes c i arg1 harg1 arg2 harg2 arg3 harg3 arg4 harg4 arg5 harg5 arg6 harg6 arg7 harg7 arg8 harg8 arg9 harg9 hc0 x0 x1 x2 x5)))
    iexact H4
  isplitl [H5]
  · iapply (owns_of_read c arg6 _ _ (read_row harg6 x5 i (scaleRow x0) _ (A_scale c i arg1 harg1 arg2 harg2 arg3 harg3 arg4 harg4 arg5 harg5 arg6 harg6 arg7 harg7 arg8 harg8 arg9 harg9 hc0 x0 x1 x2 x5) rfl))
    iexact H5
  isplitl [HS0]
  · iapply (owns_of_read c arg7 _ _ (read_eq_of_cover arg7.view _ _ _ (A_HS0 c arg2 harg2 arg3 harg3 x1 x2) (cover_A0 c arg2 harg2 arg3 harg3 x1 x2)))
    iexact HS0
  isplitl [HS1]
  · iapply (owns_of_read c arg8 _ _ (read_eq_of_cover arg8.view _ _ _ (A_HS1 c arg1 harg1 x0) (cover_A1 c arg1 harg1 x0)))
    iexact HS1
  iapply (owns_of_read c arg9 _ _ (read_eq_of_cover arg9.view _ _ _ (A_HS2 c arg1 harg1 x0) (cover_A2 c arg1 harg1 x0)))
  iexact HS2
end

section
variable (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : ¬cond0_0 i)
    (x0 : Vec F S1x24x32x512 .bf16) (x1 : Vec F S3x3x256x512 .fp8e4m3) (x2 : Vec F S1x512 .f32) (x5 : Vec F S40x8 .f32) (xs0 : Vec F S9x256x512 .bf16) (xs1 xs2 : Vec F S800x512 .bf16)
include hc0
/-- The stores of `dx` cover the block. -/
theorem B_cover_dx (y : S1x48x64x256.Idx) : ∃ p ∈ (runB c i arg1 harg1 arg2 harg2 arg3 harg3 arg4 harg4 arg5 harg5 arg6 harg6 arg7 harg7 arg8 harg8 arg9 harg9 hc0 x0 x1 x2 x5 xs0 xs1 xs2).1, y ∈ p.1.set := by
  refine View.cover_of_tiledL _ ![1, 1, 64, 256] ?_ y
  sl_kernel_rfl
/-- The stores of codes cover the block. -/
theorem B_cover_codes (y : S1x24x32x512.Idx) : ∃ p ∈ (runB c i arg1 harg1 arg2 harg2 arg3 harg3 arg4 harg4 arg5 harg5 arg6 harg6 arg7 harg7 arg8 harg8 arg9 harg9 hc0 x0 x1 x2 x5 xs0 xs1 xs2).2.1, y ∈ p.1.set := by
  refine View.cover_of_tiledL _ ![1, 1, 32, 512] ?_ y
  sl_kernel_rfl
/-- The store of scales is a row. -/
theorem B_scale : View.PiecesOf (setRow x5 (i 0).val (scaleRow x0)) (runB c i arg1 harg1 arg2 harg2 arg3 harg3 arg4 harg4 arg5 harg5 arg6 harg6 arg7 harg7 arg8 harg8 arg9 harg9 hc0 x0 x1 x2 x5 xs0 xs1 xs2).2.2.1 := by
  refine ⟨?_, trivial⟩
  exact scale_piece x5 i _ _ ((congrArg k0_pay41 (B_scl c arg1 harg1 x0)))
/-- The body at a later point, from scaled weights `xs0` and stacks with zero tails. -/
theorem B_body (hz1 : ZeroTail xs1) (hz2 : ZeroTail xs2) (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare x5 ∗ owns (c : Thread nD τ) arg7 fullShare xs0 ∗ owns (c : Thread nD τ) arg8 fullShare xs1 ∗ owns (c : Thread nD τ) arg9 fullShare xs2 ∗ (iprop(owns (c : Thread nD τ) arg1 fullShare x0 ∗ owns (c : Thread nD τ) arg2 fullShare x1 ∗ owns (c : Thread nD τ) arg3 fullShare x2 ∗ owns (c : Thread nD τ) arg4 fullShare (dxOf (stack (x0Row x0)) (stack (x1Row x0)) xs0) ∗ owns (c : Thread nD τ) arg5 fullShare (codes x0) ∗ owns (c : Thread nD τ) arg6 fullShare (setRow x5 (i 0).val (scaleRow x0)) ∗ owns (c : Thread nD τ) arg7 fullShare xs0 ∗ owns (c : Thread nD τ) arg8 fullShare (stack (x0Row x0)) ∗ owns (c : Thread nD τ) arg9 fullShare (stack (x1Row x0))) -∗ K ⟨⟩))
      ⊢ wp frame (wpE (defs₀ (F := F)) Variants.none c none) E (cc0_dgrad i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((runB c i arg1 harg1 arg2 harg2 arg3 harg3 arg4 harg4 arg5 harg5 arg6 harg6 arg7 harg7 arg8 harg8 arg9 harg9 hc0 x0 x1 x2 x5 xs0 xs1 xs2).2.2.2.2.property E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, ⟨%f3, H3⟩, ⟨%f4, H4⟩, H5, HS0, HS1, HS2⟩
  iapply Hk
  isplitl [H0]; · iexact H0
  isplitl [H1]; · iexact H1
  isplitl [H2]; · iexact H2
  isplitl [H3]
  · iapply (owns_of_read c arg4 _ _ (read_eq_of_cover arg4.view _ _ _ (B_dx c i arg1 harg1 arg2 harg2 arg3 harg3 arg4 harg4 arg5 harg5 arg6 harg6 arg7 harg7 arg8 harg8 arg9 harg9 hc0 x0 x1 x2 x5 xs0 xs1 xs2 hz1 hz2) (B_cover_dx c i arg1 harg1 arg2 harg2 arg3 harg3 arg4 harg4 arg5 harg5 arg6 harg6 arg7 harg7 arg8 harg8 arg9 harg9 hc0 x0 x1 x2 x5 xs0 xs1 xs2)))
    iexact H3
  isplitl [H4]
  · iapply (owns_of_read c arg5 _ _ (read_eq_of_cover arg5.view _ _ _ (B_codes c i arg1 harg1 arg2 harg2 arg3 harg3 arg4 harg4 arg5 harg5 arg6 harg6 arg7 harg7 arg8 harg8 arg9 harg9 hc0 x0 x1 x2 x5 xs0 xs1 xs2) (B_cover_codes c i arg1 harg1 arg2 harg2 arg3 harg3 arg4 harg4 arg5 harg5 arg6 harg6 arg7 harg7 arg8 harg8 arg9 harg9 hc0 x0 x1 x2 x5 xs0 xs1 xs2)))
    iexact H4
  isplitl [H5]
  · iapply (owns_of_read c arg6 _ _ (read_row harg6 x5 i (scaleRow x0) _ (B_scale c i arg1 harg1 arg2 harg2 arg3 harg3 arg4 harg4 arg5 harg5 arg6 harg6 arg7 harg7 arg8 harg8 arg9 harg9 hc0 x0 x1 x2 x5 xs0 xs1 xs2) rfl))
    iexact H5
  isplitl [HS0]; · iexact HS0
  isplitl [HS1]
  · iapply (owns_of_read c arg8 _ _ (B_read1 c arg1 harg1 x0 harg8 xs1 hz1))
    iexact HS1
  iapply (owns_of_read c arg9 _ _ (B_read2 c arg1 harg1 x0 harg9 xs2 hz2))
  iexact HS2
end
end Cert.KernelIdeal.Val

end
-- ==== Proof.Run.lean ====
/- The proof data of the kernel's pipeline: what each window and each scratch buffer holds point by point, the body's obligation
   over them, and the run. -/
module
public import proofs.«01_k».proof.Proof.Body
public import Idealize.ShloMosaic.Lib.Pipeline.DatRel
public import Idealize.ShloMosaic.Lib.Pipeline.ArrRel
public import Idealize.ShloMosaic.Lib.Claim
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel cellOf)
open Cert.KernelIdeal.Gen
variable {F : FTy → Type} [FloatOps F]

variable (m : (ℓ : Loc nD τ sig) → Buf (Elt F) ℓ) (ρ : Dev nD → PrngReg)

/-- The first point. -/
abbrev t0 : Fin cfg0.N := ⟨0, by decide⟩
/-- The scaled weights the kernel keeps. -/
def W (c : Dev nD) : Vec F S9x256x512 .bf16 := wts (iblk m c 1 t0) (iblk m c 2 t0)
/-- What the body leaves in the block of `dx` at point `t`. -/
def dxBlk (c : Dev nD) (t : Fin cfg0.N) : Vec F S1x48x64x256 .bf16 :=
  dxOf (stack (x0Row (iblk m c 0 t))) (stack (x1Row (iblk m c 0 t))) (W m c)
/-- What the body leaves in the block of codes at point `t`. -/
def codesBlk (c : Dev nD) (t : Fin cfg0.N) : Vec F S1x24x32x512 .fp8e5m2 := codes (iblk m c 0 t)

/-- The scratch buffers and the generator register before point `t`: anything before the first point; from then on the scaled weights
    and two stacks with zero tails. -/
def Phi (c : Dev nD) (t : Fin (cfg0.N + 1)) : sProp (MT nD τ sig Unit (Elt F) ℕ (UR sig nD τ) ℕ) :=
  if t.val = 0 then Pipeline.ΦA spec0 c
  else iprop(iprop(owns (c : Thread nD τ) scM0_0 fullShare (W m c) ∗ (∃ d, ⌜ZeroTail d⌝ ∗ owns (c : Thread nD τ) scM0_1 fullShare d)
    ∗ (∃ d, ⌜ZeroTail d⌝ ∗ owns (c : Thread nD τ) scM0_2 fullShare d)) ∗ (∃ r, prngReg c r))

/-- The proof data: `dx` and the codes by name; the scales are held to a predicate instead. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => dxBlk m c t
    | ⟨4, _⟩ => codesBlk m c t
    | ⟨5, h⟩ => Pipeline.Dat.unnamed (cfg := cfg0) ⟨5, h⟩ t
  Φ t := Phi m c t
  q _ := fullShare
  owed _ := 0

/-- The window held to a predicate: the scales. -/
def fgt : Fin cfg0.W → Bool := fun w => w.val == 5

/-- After point `t` the rows of the scales up to `t` are the blocks' scales. -/
def ScalesTo (c : Dev nD) (t : Fin cfg0.N) (X : Vec F S40x8 .f32) : Prop :=
  ∀ (y : S40x8.Idx) (h : (y 0).val ≤ t.val), X y = scaleRow (iblk m c 0 ⟨(y 0).val, lt_of_le_of_lt h t.isLt⟩) (ix2 0 (y 1))

/-- The predicates, window by window. -/
def Rl (c : Dev nD) (w : Fin cfg0.W) (t : Fin cfg0.N) (X : (cfg0.win w).block.Idx → Elt F (cfg0.win w).elt) : Prop :=
  match w, X with
  | ⟨5, _⟩, X => ScalesTo m c t X
  | _, _ => True

/-- The relational data of the run. -/
abbrev rdats (c : Dev nD) : RDat τ (Elt F) Unit ℕ (UR sig nD τ) ℕ cfg0 c := (dats m c).toRRel fgt (Rl m c)

theorem A_eq (c : Dev nD) (w : Fin cfg0.W) : (dats m c).A w = V m c (Pipeline.arrRef spec0 w) := by dsimp only [dats]
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = dxBlk m c t := by dsimp only [dats]
theorem after0_4 (c : Dev nD) (t : Fin cfg0.N) : (dats m c).after 4 t = codesBlk m c t := by dsimp only [dats]
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d

/-- What the body is called with at point `t`, -/
def bodyPre (c : Dev nD) (t : Fin cfg0.N) : sProp (MT nD τ sig Unit (Elt F) ℕ (UR sig nD τ) ℕ) :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ Y, ⌜(rdats m c).Finds 5 t Y⌝ ∗ owns (c : Thread nD τ) (ms0_5 t) fullShare Y))
/-- and what it returns. -/
def bodyPost (c : Dev nD) (t : Fin cfg0.N) : sProp (MT nD τ sig Unit (Elt F) ℕ (UR sig nD τ) ℕ) :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ (∃ X, ⌜ScalesTo m c t X⌝ ∗ owns (c : Thread nD τ) (ms0_5 t) fullShare X))

/-- The grid's one coordinate is the point. -/
theorem coords0 (t : Fin cfg0.N) : (grid0.coords t 0).val = t.val := by
  have h : t.val < 40 := lt_of_lt_of_eq t.isLt N_0
  have e0 : (grid0.coords t 0).val = t.val / 1 % 40 := Pipeline.Grid.coords_val t 0 (by decide) rfl
  omega

/-- The scales up to `t`, from those found (those up to the point before, after the first point) with row `t` stored. -/
theorem scalesTo_step (c : Dev nD) (t : Fin cfg0.N) (Y : Vec F S40x8 .f32) (h : (rdats m c).Finds 5 t Y) :
    ScalesTo m c t (setRow Y (grid0.coords t 0).val (scaleRow (iblk m c 0 t))) := by
  intro y hy
  rw [coords0]; unfold setRow
  by_cases e : (y 0).val = t.val
  · rw [if_pos e]
    have et : (⟨(y 0).val, lt_of_le_of_lt hy t.isLt⟩ : Fin cfg0.N) = t := Fin.ext e
    rw [et]
  · rw [if_neg e]
    have ht : t.val ≠ 0 := by omega
    have hN : t.val < 40 := lt_of_lt_of_eq t.isLt N_0
    rcases ((rdats m c).finds_of_pos (w := 5) rfl ht Y).mp h with hf | hl
    · have hm := (flush0_5 _).mp hf
      exfalso
      have : (t.val - 1) % 40 = 39 := hm
      omega
    · have hs : ScalesTo m c _ Y := (dats m c).toRRel_leaves (w := 5) rfl hl
      exact hs y (by show (y 0).val ≤ t.val - 1; omega)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m c).owesAt () t.succ = (dats m c).owesAt () t.castSucc from rfl,
    after0_0, after0_1, after0_2, after0_3, after0_4]
  rw [show (dats m c).Φ t.castSucc = Phi m c t.castSucc from rfl, show (dats m c).Φ t.succ = Phi m c t.succ from rfl]
  have hN : t.val < 40 := lt_of_lt_of_eq t.isLt (show cfg0.N = 40 from N_0)
  have hs : Phi m c t.succ = iprop(iprop(owns (c : Thread nD τ) scM0_0 fullShare (W m c) ∗ (∃ d, ⌜ZeroTail d⌝ ∗ owns (c : Thread nD τ) scM0_1 fullShare d)
    ∗ (∃ d, ⌜ZeroTail d⌝ ∗ owns (c : Thread nD τ) scM0_2 fullShare d)) ∗ (∃ r, prngReg c r)) := if_neg (by simp)
  rw [hs]
  by_cases h0 : t.val % 40 = 0
  · have hp : Phi m c t.castSucc = Pipeline.ΦA spec0 c := if_pos (by show t.val = 0; omega)
    rw [hp, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%Y, %hY, H5⟩⟩
    iapply (A_body c (grid0.coords t) _ _ _ _ _ _ _ _ _ _ _ _ _ _ _ _ _ _ ((hcond0_0 t).mpr h0) (iblk m c 0 t) (iblk m c 1 t) (iblk m c 2 t) Y Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexists (stack (x0Row (iblk m c 0 t))); isplitr
          · ipureintro; exact stack_zeroTail _
          iexact HS1
        iexists (stack (x1Row (iblk m c 0 t))); isplitr
        · ipureintro; exact stack_zeroTail _
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists (setRow Y (grid0.coords t 0).val (scaleRow (iblk m c 0 t))); isplitr
    · ipureintro; exact scalesTo_step m c t Y hY
    iexact H5
  · have hp : Phi m c t.castSucc = iprop(iprop(owns (c : Thread nD τ) scM0_0 fullShare (W m c) ∗ (∃ d, ⌜ZeroTail d⌝ ∗ owns (c : Thread nD τ) scM0_1 fullShare d)
      ∗ (∃ d, ⌜ZeroTail d⌝ ∗ owns (c : Thread nD τ) scM0_2 fullShare d)) ∗ (∃ r, prngReg c r)) := if_neg (by show ¬ t.val = 0; omega)
    rw [hp]
    iintro ⟨⟨⟨HS0, ⟨%e1, %hz1, HS1⟩, ⟨%e2, %hz2, HS2⟩⟩, Hg⟩, Ho, ⟨%d0, H0⟩, ⟨%d1, H1⟩, ⟨%d2, H2⟩, ⟨%d3, H3⟩, ⟨%d4, H4⟩, ⟨%Y, %hY, H5⟩⟩
    iapply (B_body c (grid0.coords t) _ _ _ _ _ _ _ _ _ _ _ _ _ _ _ _ _ _ (fun h => h0 ((hcond0_0 t).mp h)) (iblk m c 0 t) (iblk m c 1 t) (iblk m c 2 t) Y (W m c) e1 e2 hz1 hz2 Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexists (stack (x0Row (iblk m c 0 t))); isplitr
          · ipureintro; exact stack_zeroTail _
          iexact HS1
        iexists (stack (x1Row (iblk m c 0 t))); isplitr
        · ipureintro; exact stack_zeroTail _
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists (setRow Y (grid0.coords t 0).val (scaleRow (iblk m c 0 t))); isplitr
    · ipureintro; exact scalesTo_step m c t Y hY
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m c) (defs₀ (F := F)) Variants.none () Set.univ fgt (Rl m c) := fun t => by
  rw [bigSep_W0, bigSep_W0, defs₀_row]
  exact triple_restated (sound_body m c t) rfl .rfl fun _ => .rfl

/-- Before the first point nothing is known of the scratch buffers, and after the last nothing is kept. -/
theorem phi_in (c : Dev nD) : Pipeline.ΦA spec0 c ⊢ Phi m c 0 := by
  rw [show Phi m c 0 = Pipeline.ΦA spec0 c from if_pos rfl]
theorem phi_out (c : Dev nD) : Phi m c (Fin.last cfg0.N) ⊢ Pipeline.ΦA spec0 c := by
  have hN : cfg0.N = 40 := N_0
  rw [show Phi m c (Fin.last cfg0.N) = _ from if_neg (by show ¬ cfg0.N = 0; omega), PhiA0_eq]
  iintro ⟨⟨HS0, ⟨%e1, %hz1, HS1⟩, ⟨%e2, %hz2, HS2⟩⟩, Hg⟩
  isplitl [HS0 HS1 HS2]
  · isplitl [HS0]
    · iexists _; iexact HS0
    isplitl [HS1]
    · iexists _; iexact HS1
    iexists _; iexact HS2
  iexact Hg

-- the run theorem's implicit arguments are found by unifying its conclusion with this one, which takes unfolding plain
-- definitions in a metavariable's type
set_option backward.isDefEq.respectTransparency.types false in
/-- The run: every window's array ends at contents the data allow, every other buffer as the region found it, the semaphores at zero. -/
theorem run_main_quiescent : θ_run defs (onTc (τ := τ) (main (F := F))) (s₀ m ρ)
    (fun r => (Pipeline.RDat.FramePost (cfgs 0) (fun c => rdats m c) (V m)) r ∧ r.2.sem = fun _ => 0) :=
  Pipeline.RDat.θ_run_frame_track (Q' := _) cfgs (0 : Fin 1) launch0 defs₀ Variants.none (fun c => rdats m c) m ρ main
    (hbody := fun c => (body_obligation m c).toRRel) (hshare := fun c => (dats m c).share_full fun _ => rfl)
    (howed := fun _ _ => rfl) (V := V m) (hmain := hmain m Variants.none) (hA := A_eq m) (hin := phi_in m) (hout := phi_out m)

/-- The arguments end unchanged. -/
theorem unchanged (r : PUnit × MemSt nD τ sig (Elt F)) (h : (Pipeline.RDat.FramePost (cfgs 0) (fun c => rdats m c) (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    ((h c).2 main_arg2 (Pipeline.mem_restRefs_of main_arg2 (by decide) (by decide))).trans (V_main_arg2 m c)⟩

/-- The frame: the run ends, the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => unchanged m r h.1 c, h.2⟩) (run_main_quiescent m ρ)

end Cert.KernelIdeal.Val

end
-- ==== Proof.Arrays.lean ====
/- What the kernel's three result arrays hold after the run, as functions of the three argument arrays. -/
module
public import proofs.«01_k».proof.Proof.Run
public import Idealize.ShloMosaic.Lib.Pointwise
@[expose] public section
set_option maxRecDepth 16384
noncomputable section
namespace Cert.KernelIdeal.Val
open Idealize.ShloMosaic Idealize.ShloMosaic.TcCoe Idealize.ShloMosaic.Tactic
open Idealize.SL Idealize.SL.RA Idealize.SL.BI Idealize.SL.Sem
open Idealize.ShloMosaic.Pipeline (Dat RDat Cfg Window)
open Cert.KernelIdeal.Gen
variable {F : FTy → Type} [FloatOps F]

variable (m : (ℓ : Loc nD τ sig) → Buf (Elt F) ℓ) (ρ : Dev nD → PrngReg)

/-- The block of every window at every point. -/
theorem idx : ∀ t : Fin cfg0.N, win0_0.index t = ![t.val, 0, 0, 0] ∧ win0_1.index t = ![0, 0, 0, 0] ∧ win0_2.index t = ![0, 0]
    ∧ win0_3.index t = ![t.val, 0, 0, 0] ∧ win0_4.index t = ![t.val, 0, 0, 0] ∧ win0_5.index t = ![0, 0] :=
  (by decide +kernel : ∀ t : Fin grid0.N, _)

/-- Batch `b` of `dy`. -/
def batch (dy : FVec F S40x24x32x512 .bf16) (b : Fin 40) : Vec F S1x24x32x512 .bf16 := fun j => dy (ix4 b (j 1) (j 2) (j 3))
/-- The scale of the weights as a row. -/
def wRow (s : FVec F S512 .f32) : Vec F S1x512 .f32 := shapeCast S1x512 s shapeCasts_S512_S1x512

/-- The scales. -/
def scalesArr (dy : FVec F S40x24x32x512 .bf16) : FVec F S40x8 .f32 := fun y => scaleRow (batch dy (y 0)) (ix2 0 (y 1))
/-- The codes. -/
def codesArr (dy : FVec F S40x24x32x512 .bf16) : FVec F S40x24x32x512 .fp8e5m2 := fun y => codes (batch dy (y 0)) (ix4 0 (y 1) (y 2) (y 3))
/-- The gradient of batch `b`. -/
def dxAt (dy : FVec F S40x24x32x512 .bf16) (wq : FVec F S3x3x256x512 .fp8e4m3) (s : FVec F S512 .f32) (b : Fin 40) : Vec F S1x48x64x256 .bf16 :=
  dxOf (stack (x0Row (batch dy b))) (stack (x1Row (batch dy b))) (wts wq (wRow s))
/-- The gradient. -/
def dxArr (dy : FVec F S40x24x32x512 .bf16) (wq : FVec F S3x3x256x512 .fp8e4m3) (s : FVec F S512 .f32) : FVec F S40x48x64x256 .bf16 := fun y =>
  dxAt dy wq s (y 0) (ix4 0 (y 1) (y 2) (y 3))

/-- The block of `dy` at a point is its batch. -/
theorem iblk0_eq (c : Dev nD) (t : Fin cfg0.N) (b : Fin 40) (hb : b.val = t.val) :
    (iblk m c 0 t : Vec F S1x24x32x512 .bf16) = batch (m ((c : Thread nD τ).loc main_arg0)) b := by
  funext y
  unfold batch
  blk_ext [iblk, V, idx t]

/-- The block of the weights is the whole array. -/
theorem iblk1_eq (c : Dev nD) (t : Fin cfg0.N) : (iblk m c 1 t : Vec F S3x3x256x512 .fp8e4m3) = m ((c : Thread nD τ).loc main_arg1) := by
  funext y
  blk_ext [iblk, V, idx t]

/-- The block of the scale of the weights is the whole row. -/
theorem iblk2_eq (c : Dev nD) (t : Fin cfg0.N) : (iblk m c 2 t : Vec F S1x512 .f32) = wRow (m ((c : Thread nD τ).loc main_arg2)) := by
  funext y
  blk_simp [iblk]
  entry_read
  unfold wRow
  blk_ext [idx t]

/-- What the body leaves in the blocks of `dx`. -/
theorem leaves3 (c : Dev nD) (t : Fin cfg0.N) (X : Vec F S1x48x64x256 .bf16) (h : (rdats m c).Leaves 3 t X) : X = dxBlk m c t := by
  obtain ⟨Y, _, hX⟩ := h
  have e := (dats m c).toRRel_after_of_eq_false (fgt := fgt) (Rl := Rl m c) (w := 3) rfl
  rw [show (rdats m c).after 3 = _ from e] at hX
  exact hX.trans (after0_3 m c t)
/-- What the body leaves in the blocks of codes. -/
theorem leaves4 (c : Dev nD) (t : Fin cfg0.N) (X : Vec F S1x24x32x512 .fp8e5m2) (h : (rdats m c).Leaves 4 t X) : X = codesBlk m c t := by
  obtain ⟨Y, _, hX⟩ := h
  have e := (dats m c).toRRel_after_of_eq_false (fgt := fgt) (Rl := Rl m c) (w := 4) rfl
  rw [show (rdats m c).after 4 = _ from e] at hX
  exact hX.trans (after0_4 m c t)
/-- What the body leaves in the scales. -/
theorem leaves5 (c : Dev nD) (t : Fin cfg0.N) (X : Vec F S40x8 .f32) (h : (rdats m c).Leaves 5 t X) : ScalesTo m c t X :=
  (dats m c).toRRel_leaves (fgt := fgt) (Rl := Rl m c) (w := 5) rfl h

/-- The block of `dx` at a point, of the arguments. -/
theorem dxBlk_eq (c : Dev nD) (t : Fin cfg0.N) (b : Fin 40) (hb : b.val = t.val) :
    dxBlk m c t = dxAt (m ((c : Thread nD τ).loc main_arg0)) (m ((c : Thread nD τ).loc main_arg1)) (m ((c : Thread nD τ).loc main_arg2)) b := by
  unfold dxBlk W dxAt
  rw [iblk0_eq m c t b hb, iblk1_eq, iblk2_eq]

/-- The run: the three result arrays hold `dx`, the codes and the scales of the argument arrays, and the arguments are unchanged. -/
theorem run : θ_run defs (onTc (τ := τ) (main (F := F))) ⟨m, fun _ => 0, ρ⟩ (fun r => ∀ c : Dev nD,
      r.2.mem ((c.tc : Thread nD τ).loc main_v1_0) = dxArr (m ((c.tc : Thread nD τ).loc main_arg0)) (m ((c.tc : Thread nD τ).loc main_arg1)) (m ((c.tc : Thread nD τ).loc main_arg2))
      ∧ r.2.mem ((c.tc : Thread nD τ).loc main_v1_1) = codesArr (m ((c.tc : Thread nD τ).loc main_arg0))
      ∧ r.2.mem ((c.tc : Thread nD τ).loc main_v1_2) = scalesArr (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main_quiescent m ρ)
  obtain ⟨after, hL, hA⟩ := RDat.FramePost.exists_exact h.1 c
  have hN : cfg0.N = 40 := N_0
  refine ⟨(hA 3).trans ?_, (hA 4).trans ?_, (hA 5).trans ?_, unchanged m r h.1 c⟩
  · refine Dat.arrAt_eq_of_covers _ 3 _ (by decide +kernel) fun t hf y => ?_
    have ht : t.val < 40 := hN ▸ t.isLt
    have e : after 3 t = dxBlk m c t := leaves3 m c t _ (hL 3 t hf)
    rw [RDat.withAfter_after, e, dxBlk_eq m c t ⟨t.val, ht⟩ rfl]
    unfold dxArr
    blk_simp
    refine congr (congrArg (dxAt _ _ _) (Fin.ext ?_)) ?_
    · blk_simp [idx t]
    · blk_ext [idx t]
  · refine Dat.arrAt_eq_of_covers _ 4 _ (by decide +kernel) fun t hf y => ?_
    have ht : t.val < 40 := hN ▸ t.isLt
    have e : after 4 t = codesBlk m c t := leaves4 m c t _ (hL 4 t hf)
    rw [RDat.withAfter_after, e]
    unfold codesBlk codesArr
    rw [iblk0_eq m c t ⟨t.val, ht⟩ rfl]
    blk_simp
    refine congr (congrArg (fun b => codes (batch _ b)) (Fin.ext ?_)) ?_
    · blk_simp [idx t]
    · blk_ext [idx t]
  · have hf : (cfg0.win 5).flush ⟨39, by decide⟩ = true := (flush0_5 _).mpr rfl
    have hs := leaves5 m c ⟨39, by decide⟩ _ (hL 5 ⟨39, by decide⟩ hf)
    refine Dat.arrAt_eq_of_after_last _ 5 ⟨39, by decide⟩ (by decide +kernel) _ fun j => ?_
    rw [RDat.withAfter_after]
    blk_simp
    have hj : (j 0).val < 40 := (j 0).isLt
    refine (hs _ (Nat.le_of_lt_succ hj)).trans ?_
    unfold scalesArr
    refine congr (congrArg scaleRow (iblk0_eq m c ⟨(j 0).val, _⟩ (j 0) rfl)) rfl

end Cert.KernelIdeal.Val
end
-- ==== Proof.Reference.lean ====
/- What the reference's run leaves in its three results, as functions of its arguments. -/
module
public import proofs.«01_k».proof.Proof.Gen.ReferenceIdeal.Frame
public import Idealize.ShloMosaic.Lib.Claim
public import Idealize.ShloMosaic.Lib.Pipeline.ValueKit
public import Idealize.ShloMosaic.Lib.Pointwise
@[expose] public section
set_option maxRecDepth 16384
noncomputable section
namespace Cert.ReferenceIdeal.Val
open Idealize.ShloMosaic Idealize.ShloMosaic.TcCoe Idealize.ShloMosaic.Tactic
open Idealize.SL Idealize.SL.RA Idealize.SL.BI Idealize.SL.Sem
open Cert.ReferenceIdeal.Gen
variable {F : FTy → Type} [FloatOps F]

/-- The largest absolute value of each group of 64 lanes of each batch. -/
def amaxR (dy : FVec F S40x24x32x512 .bf16) : FVec F S40x8 .f32 :=
  Host.reduce FloatOps.maximumf (shapeCast S40x24x32x8x64 (Host.absf (extf .f32 dy bitsLt_bf16_f32)) shapeCasts_S40x24x32x512_S40x24x32x8x64 : FVec F S40x24x32x8x64 .f32)
    (constant S_ .f32 0xFF800000#32) reducesTo_S40x24x32x8x64_S40x8_d1_2_4 h_S_

/-- The powers of two from the smallest normal number up, and infinity. -/
def powersR : FVec F S255 .f32 :=
  concatenate S255 0
    [⟨S254, Host.powf (broadcastInDim S254 ![] bcast_S_S254 (constant S_ .f32 1073741824#32))
      (sitofp .f32 (addi (broadcastInDim S254 ![] bcast_S_S254 (constantI S_ 32 4294967170#32)) (iotaInDim S254 32 0)))⟩,
     ⟨S1, broadcastInDim S1 ![] bcast_S_S1 (constant S_ .f32 2139095040#32)⟩] concatenates_S254_S1_S255_d0

/-- How many of the powers a number reaches, less 126: the exponent. -/
def countR (a : FVec F S40x8 .f32) : IVec S40x8 32 :=
  subi (Host.reduce IntOp.addi
      (extui 32 (cmpf CmpFPredicate.oge
        (broadcastInDim S40x8x255 ![0, 1, 2] bcast_S40x8x1_S40x8x255_0_1_2
          (broadcastInDim S40x8x1 ![0, 1] bcast_S40x8_S40x8x1_0_1 (mulf a (broadcastInDim S40x8 ![] bcast_S_S40x8 (constant S_ .f32 932333861#32)))))
        (broadcastInDim S40x8x255 ![0, 1, 2] bcast_S1x1x255_S40x8x255_0_1_2 (broadcastInDim S1x1x255 ![2] bcast_S255_S1x1x255_2 powersR))) natLt_1_32)
      (constantI S_ 32 0#32) reducesTo_S40x8x255_S40x8_d2 h_S_)
    (broadcastInDim S40x8 ![] bcast_S_S40x8 (constantI S_ 32 126#32))

/-- The exponent of the scale of each group: zero for a group of zeros. -/
def expoR (a : FVec F S40x8 .f32) : IVec S40x8 32 :=
  select (cmpf CmpFPredicate.oeq a (broadcastInDim S40x8 ![] bcast_S_S40x8 (constant S_ .f32 0#32)))
    (broadcastInDim S40x8 ![] bcast_S_S40x8 (constantI S_ 32 0#32)) (countR a)

/-- Two to an integer power: zero below the normal range, infinity above. -/
def pow2R (e : IVec S40x8 32) : FVec F S40x8 .f32 :=
  select (cmpi CmpIPredicate.slt e (broadcastInDim S40x8 ![] bcast_S_S40x8 (constantI S_ 32 4294967170#32)))
    (broadcastInDim S40x8 ![] bcast_S_S40x8 (constant S_ .f32 0#32))
    (select (cmpi CmpIPredicate.sgt e (broadcastInDim S40x8 ![] bcast_S_S40x8 (constantI S_ 32 127#32)))
      (broadcastInDim S40x8 ![] bcast_S_S40x8 (constant S_ .f32 2139095040#32))
      (Host.powf (broadcastInDim S40x8 ![] bcast_S_S40x8 (constant S_ .f32 1073741824#32)) (sitofp .f32 e)))

/-- The scale of each group. -/
def scaleR (dy : FVec F S40x24x32x512 .bf16) : FVec F S40x8 .f32 := pow2R (expoR (amaxR dy))
/-- The inverse scale of each group. -/
def invR (dy : FVec F S40x24x32x512 .bf16) : FVec F S40x8 .f32 := pow2R (negi (expoR (amaxR dy)))

/-- A number of each group along the group's 64 lanes. -/
def alongR {φ : FTy} (x : FVec F S40x8 φ) : FVec F S40x1x1x512 φ :=
  broadcastInDim S40x1x1x512 ![0, 3] bcast_S40x512_S40x1x1x512_0_3
    (shapeCast S40x512 (broadcastInDim S40x8x64 ![0, 1] bcast_S40x8_S40x8x64_0_1 x) shapeCasts_S40x8x64_S40x512 : FVec F S40x512 φ)

/-- The codes. -/
def codesR (dy : FVec F S40x24x32x512 .bf16) : FVec F S40x24x32x512 .fp8e5m2 :=
  k0_pay1 (extf .f32 dy bitsLt_bf16_f32) (alongR (invR dy))
/-- The dequantised gradient. -/
def deqR (dy : FVec F S40x24x32x512 .bf16) : FVec F S40x24x32x512 .bf16 :=
  k0_pay2 (extf .f32 dy bitsLt_bf16_f32) (alongR (invR dy)) (alongR (truncf .bf16 (scaleR dy) bitsLt_bf16_f32))
/-- The dequantised weights. -/
def wtsR (wq : FVec F S3x3x256x512 .fp8e4m3) (s : FVec F S512 .f32) : FVec F S3x3x256x512 .bf16 :=
  k0_pay3 wq (shapeCast S1x1x1x512 (truncf .bf16 s bitsLt_bf16_f32) shapeCasts_S512_S1x1x1x512)

/-- The gradient with a zero between any two rows and columns and zeros around. -/
def wideR (X : FVec F S40x24x32x512 .bf16) : FVec F S40x50x66x512 .bf16 :=
  pad S40x50x66x512 ![0, 1, 1, 0] ![0, 2, 2, 0] ![0, 1, 1, 0] X (constant S_ .bf16 0#16) pads_S40x24x32x512_S40x50x66x512_000_121_121_000 h_S_
/-- One tap of the weights, of the flipped weights. -/
def tapR (Wt : FVec F S3x3x256x512 .bf16) (ty tx : ℕ) (h : S3x3x256x512.Slices ![ty, tx, 0, 0] S1x1x256x512) : FVec F S256x512 .bf16 :=
  shapeCast S256x512 (extractStridedSlice S1x1x256x512 ![ty, tx, 0, 0] (Host.reverse [0, 1] Wt) h : FVec F S1x1x256x512 .bf16) shapeCasts_S1x1x256x512_S256x512
/-- One tap's part of the convolution. -/
def partR (X : FVec F S40x24x32x512 .bf16) (Wt : FVec F S3x3x256x512 .bf16) (ty tx : ℕ) (h : S40x50x66x512.Slices ![0, ty, tx, 0] S40x48x64x512)
    (h' : S3x3x256x512.Slices ![ty, tx, 0, 0] S1x1x256x512) : FVec F S40x48x64x256 .f32 :=
  Host.dotGeneral dot_S40x48x64x512_S256x512_S40x48x64x256_3_1_012_0_n_n none
    (extractStridedSlice S40x48x64x512 ![0, ty, tx, 0] (wideR X) h : FVec F S40x48x64x512 .bf16) (tapR Wt ty tx h')
/-- The convolution: the nine taps' parts, added up. -/
def convR (X : FVec F S40x24x32x512 .bf16) (Wt : FVec F S3x3x256x512 .bf16) : FVec F S40x48x64x256 .bf16 :=
  truncf .bf16 (addf (addf (addf (addf (addf (addf (addf (addf (addf
      (broadcastInDim S40x48x64x256 ![] bcast_S_S40x48x64x256 (constant S_ .f32 0#32))
      (partR X Wt 0 0 slices_S40x50x66x512_S40x48x64x512_0_0_0_0 slices_S3x3x256x512_S1x1x256x512_0_0_0_0))
      (partR X Wt 0 1 slices_S40x50x66x512_S40x48x64x512_0_0_1_0 slices_S3x3x256x512_S1x1x256x512_0_1_0_0))
      (partR X Wt 0 2 slices_S40x50x66x512_S40x48x64x512_0_0_2_0 slices_S3x3x256x512_S1x1x256x512_0_2_0_0))
      (partR X Wt 1 0 slices_S40x50x66x512_S40x48x64x512_0_1_0_0 slices_S3x3x256x512_S1x1x256x512_1_0_0_0))
      (partR X Wt 1 1 slices_S40x50x66x512_S40x48x64x512_0_1_1_0 slices_S3x3x256x512_S1x1x256x512_1_1_0_0))
      (partR X Wt 1 2 slices_S40x50x66x512_S40x48x64x512_0_1_2_0 slices_S3x3x256x512_S1x1x256x512_1_2_0_0))
      (partR X Wt 2 0 slices_S40x50x66x512_S40x48x64x512_0_2_0_0 slices_S3x3x256x512_S1x1x256x512_2_0_0_0))
      (partR X Wt 2 1 slices_S40x50x66x512_S40x48x64x512_0_2_1_0 slices_S3x3x256x512_S1x1x256x512_2_1_0_0))
      (partR X Wt 2 2 slices_S40x50x66x512_S40x48x64x512_0_2_2_0 slices_S3x3x256x512_S1x1x256x512_2_2_0_0)) bitsLt_bf16_f32
/-- The gradient of the input. -/
def dxR (dy : FVec F S40x24x32x512 .bf16) (wq : FVec F S3x3x256x512 .fp8e4m3) (s : FVec F S512 .f32) : FVec F S40x48x64x256 .bf16 :=
  convR (deqR dy) (wtsR wq s)

/-! ## The host operations before the region -/

variable (m : (ℓ : Loc nD τ sig) → Buf (Elt F) ℓ) (ρ : Dev nD → PrngReg)

set_option maxHeartbeats 1600000 in
/-- The scale, at the region's entry. -/
theorem V_scale (c : Dev nD) : V m c main_v34 = scaleR (m ((c : Thread nD τ).loc main_arg0)) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append, StableHlo.after_cons, StableHlo.after_nil]
  after_results_simp
  after_results_loop
  rfl
set_option maxHeartbeats 1600000 in
/-- The inverse scale along the lanes, at the region's entry. -/
theorem V_inv (c : Dev nD) : V m c main_v47 = alongR (invR (m ((c : Thread nD τ).loc main_arg0))) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append, StableHlo.after_cons, StableHlo.after_nil]
  after_results_simp
  after_results_loop
  rfl
set_option maxHeartbeats 1600000 in
/-- The scale along the lanes, at the region's entry. -/
theorem V_scl (c : Dev nD) : V m c main_v51 = alongR (truncf .bf16 (scaleR (m ((c : Thread nD τ).loc main_arg0))) bitsLt_bf16_f32) := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append, StableHlo.after_cons, StableHlo.after_nil]
  after_results_simp
  after_results_loop
  rfl
set_option maxHeartbeats 1600000 in
/-- The scale of the weights, at the region's entry. -/
theorem V_ws (c : Dev nD) : V m c main_v53 = shapeCast S1x1x1x512 (truncf .bf16 (m ((c : Thread nD τ).loc main_arg2) : FVec F S512 .f32) bitsLt_bf16_f32) shapeCasts_S512_S1x1x1x512 := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append, StableHlo.after_cons, StableHlo.after_nil]
  after_results_simp
  after_results_loop
  rfl
set_option maxHeartbeats 1600000 in
/-- The gradient widened, at the region's entry. -/
theorem V_dy (c : Dev nD) : V m c main_v0 = extf .f32 (m ((c : Thread nD τ).loc main_arg0) : FVec F S40x24x32x512 .bf16) bitsLt_bf16_f32 := by
  unfold V V0
  simp only [List.flatten_cons, List.flatten_nil, List.append_nil, hostOps0, hostOps0_1, hostOps0_2, hostOps0_3, hostOps0_4, hostOps0_5, hostOps0_6, hostOps0_7, hostOps0_8, hostOps0_9, hostOps0_10, List.cons_append, List.nil_append, StableHlo.after_cons, StableHlo.after_nil]
  after_results_simp
  after_results_loop

/-! ## The region -/

/-- Every window's block is its whole array. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] := (by decide +kernel : ∀ t : Fin grid0.N, _)
theorem iblk0_eq (c : Dev nD) (t : Fin cfg0.N) : (iblk m c 0 t : Vec F S40x24x32x512 .f32) = extf .f32 (m ((c : Thread nD τ).loc main_arg0) : FVec F S40x24x32x512 .bf16) bitsLt_bf16_f32 := by
  rw [← V_dy]; generalize hX : V m c main_v0 = X
  funext y
  blk_simp [iblk]; rw [hX]; blk_ext [idx t]
theorem iblk1_eq (c : Dev nD) (t : Fin cfg0.N) : (iblk m c 1 t : Vec F S40x1x1x512 .f32) = alongR (invR (m ((c : Thread nD τ).loc main_arg0))) := by
  rw [← V_inv]; generalize hX : V m c main_v47 = X
  funext y
  blk_simp [iblk]; rw [hX]; blk_ext [idx t]
theorem iblk2_eq (c : Dev nD) (t : Fin cfg0.N) : (iblk m c 2 t : Vec F S40x1x1x512 .bf16) = alongR (truncf .bf16 (scaleR (m ((c : Thread nD τ).loc main_arg0))) bitsLt_bf16_f32) := by
  rw [← V_scl]; generalize hX : V m c main_v51 = X
  funext y
  blk_simp [iblk]; rw [hX]; blk_ext [idx t]
theorem iblk3_eq (c : Dev nD) (t : Fin cfg0.N) : (iblk m c 3 t : Vec F S3x3x256x512 .fp8e4m3) = m ((c : Thread nD τ).loc main_arg1) := by
  rw [← V_main_arg1 m c]; generalize hX : V m c main_arg1 = X
  funext y
  blk_simp [iblk]; rw [hX]; blk_ext [idx t]
theorem iblk4_eq (c : Dev nD) (t : Fin cfg0.N) : (iblk m c 4 t : Vec F S1x1x1x512 .bf16) = shapeCast S1x1x1x512 (truncf .bf16 (m ((c : Thread nD τ).loc main_arg2) : FVec F S512 .f32) bitsLt_bf16_f32) shapeCasts_S512_S1x1x1x512 := by
  rw [← V_ws]; generalize hX : V m c main_v53 = X
  funext y
  blk_simp [iblk]; rw [hX]; blk_ext [idx t]

/-- The codes after the region. -/
theorem arr5 (c : Dev nD) : (dats m 0 c).arrAt 5 (cfgs 0).N = codesR (m ((c : Thread nD τ).loc main_arg0)) := by
  refine (dats m 0 c).arrAt_eq_of_after_last 5 t0_0 (by decide +kernel) _ fun j => ?_
  blk_simp
  rw [after0_5]; frame_out
  rw [iblk0_eq, iblk1_eq]; rfl
/-- The dequantised gradient after the region. -/
theorem arr6 (c : Dev nD) : (dats m 0 c).arrAt 6 (cfgs 0).N = deqR (m ((c : Thread nD τ).loc main_arg0)) := by
  refine (dats m 0 c).arrAt_eq_of_after_last 6 t0_0 (by decide +kernel) _ fun j => ?_
  blk_simp
  rw [after0_6]; frame_out
  rw [iblk0_eq, iblk1_eq, iblk2_eq]; rfl
/-- The dequantised weights after the region. -/
theorem arr7 (c : Dev nD) : (dats m 0 c).arrAt 7 (cfgs 0).N = wtsR (m ((c : Thread nD τ).loc main_arg1)) (m ((c : Thread nD τ).loc main_arg2)) := by
  refine (dats m 0 c).arrAt_eq_of_after_last 7 t0_0 (by decide +kernel) _ fun j => ?_
  blk_simp
  rw [after0_7]; frame_out
  rw [iblk3_eq, iblk4_eq]; rfl

/-! ## The host operations after the region -/

set_option maxHeartbeats 1600000 in
/-- The convolution is what the operations after the region compute. -/
theorem tail_dx (σ : Valuation τ sig (Elt F)) :
    StableHlo.after ([hostOps1, hostOps1_1] : List (List (HloOp τ sig (Elt F)))).flatten σ (Proc.devRef .tc main_v103)
      = convR (σ (Proc.devRef .tc main_v54_1)) (σ (Proc.devRef .tc main_v54_2)) := by
  simp only [List.flatten_cons, List.flatten_nil, List.append_nil, hostOps1, hostOps1_1, List.cons_append, List.nil_append, StableHlo.after_cons, StableHlo.after_nil]
  after_results_simp
  after_results_loop
  rfl
set_option maxHeartbeats 1600000 in
/-- The operations after the region leave the scale alone. -/
theorem tail_scale (σ : Valuation τ sig (Elt F)) :
    StableHlo.after ([hostOps1, hostOps1_1] : List (List (HloOp τ sig (Elt F)))).flatten σ (Proc.devRef .tc main_v34) = σ (Proc.devRef .tc main_v34) := by
  simp only [List.flatten_cons, List.flatten_nil, List.append_nil, hostOps1, hostOps1_1, List.cons_append, List.nil_append, StableHlo.after_cons, StableHlo.after_nil]
  after_results_simp
  after_results_loop

/-- The run's first result. -/
theorem out_dx (c : Dev nD) : Pipeline.afterTail₀ cfgs (dats m) 0 (V0 m) [hostOps1, hostOps1_1] c main_v103
    = dxR (m ((c : Thread nD τ).loc main_arg0)) (m ((c : Thread nD τ).loc main_arg1)) (m ((c : Thread nD τ).loc main_arg2)) := by
  unfold Pipeline.afterTail₀ dxR
  rw [tail_dx]
  refine congr (congrArg convR ?_) ?_
  · exact (Pipeline.withArrays_arr spec0 launch0.win.arr_inj c (V0 m c) _ 6).trans (arr6 m c)
  · exact (Pipeline.withArrays_arr spec0 launch0.win.arr_inj c (V0 m c) _ 7).trans (arr7 m c)
/-- The run's third result. -/
theorem out_scale (c : Dev nD) : Pipeline.afterTail₀ cfgs (dats m) 0 (V0 m) [hostOps1, hostOps1_1] c main_v34
    = scaleR (m ((c : Thread nD τ).loc main_arg0)) := by
  unfold Pipeline.afterTail₀
  rw [tail_scale, Pipeline.withArrays_of_ne _ c (V0 m c) _ main_v34 (by exact (by decide : ∀ w, Pipeline.arrRef spec0 w ≠ main_v34))]
  exact V_scale m c

end Cert.ReferenceIdeal.Val
end
-- ==== Proof.Amax.lean ====
/- The largest absolute value of a group as an exact number: the kernel's tree over rows and masked lanes and the reference's
   reduction bound the same numbers. -/
module
public import proofs.«01_k».proof.Proof.Arrays
public import proofs.«01_k».proof.Proof.Reference
@[expose] public section
set_option maxRecDepth 16384
noncomputable section
namespace Cert.KernelIdeal.Val
open Idealize.ShloMosaic Idealize.ShloMosaic.TcCoe Idealize.ShloMosaic.Tactic
open Cert.KernelIdeal.Gen

/-- The absolute value of an exact number. -/
abbrev mag (x : EReal) : EReal := FloatOps.absf (F := Idealize.ShloMosaic.Ideal) (φ := .bf16) x

/-- An absolute value is not negative. -/
theorem mag_nonneg (x : EReal) : (0 : EReal) ≤ mag x := by
  show (0 : EReal) ≤ max x (-x)
  rcases le_total (0 : EReal) x with h | h
  · exact le_max_of_le_left h
  · exact le_max_of_le_right (EReal.neg_nonneg.mpr h)

/-- The start of a maximum is below everything. -/
theorem start_le (c : EReal) : (Ideal.ofBits .f32 4286578688#32 : EReal) ≤ c := by
  have : (Ideal.ofBits .f32 4286578688#32 : EReal) = ⊥ := by simp [Ideal.ofBits, Ideal.ieee]
  rw [this]; exact bot_le

/-- A choice by a bit that says `p`. -/
theorem select_bit {α : Type} {c : BitVec 1} {p : Prop} [Decidable p] (h : c = BitVec.ofBool (decide p)) (a b : α) : Scalar.select c a b = if p then a else b := by
  subst h
  by_cases hp : p
  · simp [Scalar.select, hp]
  · simp [Scalar.select, hp]

/-- The lane maximum is the least bound of the lane over rows and columns. -/
theorem amaxRow_le (x0 : Vec Idealize.ShloMosaic.Ideal S1x24x32x512 .bf16) (n : Fin 512) (c : EReal) :
    amaxRow x0 (ix2 0 n) ≤ c ↔ ∀ (r : Fin 24) (x : Fin 32), mag (x0 (ix4 0 r x n)) ≤ c := by
  have e : ∀ Y, amaxRow x0 (ix2 0 n) = Y → Y = amaxRow x0 (ix2 0 n) := fun _ h => h.symm
  rw [← e _ (by
    pointwise [amaxRow, k0_pay16, k0_pay17, k0_pay18, k0_pay19, k0_pay20, k0_pay21, rowAt]
    rfl)]
  rw [Finset.fold_max_le]
  simp only [max_le_iff]
  constructor
  · rintro ⟨-, h⟩ r x
    obtain ⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := h x (Finset.mem_univ x)
    fin_cases r <;> assumption
  · intro h
    refine ⟨start_le c, fun x _ => ?_⟩
    refine ⟨⟨⟨⟨⟨⟨⟨⟨⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩, ?_⟩ <;> exact h _ x

/-- The lane maxima spread: sublane `s` holds the 128 lanes from `128·(s/2)`. -/
theorem spread8_at (v : FVec Idealize.ShloMosaic.Ideal S1x512 .f32) (s : Fin 8) (l : Fin 128) : spread8 v (ix2 s l) = v (ix2 0 ⟨128 * (s.val / 2) + l.val, by omega⟩) := by
  pointwise [spread8, k0_pay22, k0_pay24, k0_pay25, k0_pay26, k0_pay27, k0_pay28, k0_pay29, k0_pay30]
  refine (select_bit (p := s.val / 2 = 3) (by clear v l; revert s; decide +kernel) _ _).trans ?_
  split_ifs with h3
  · exact congrArg (fun n => v (ix2 0 n)) (Fin.ext (by show 384 + l.val = 128 * (s.val / 2) + l.val; omega))
  refine (select_bit (p := s.val / 2 = 2) (by clear h3 v l; revert s; decide +kernel) _ _).trans ?_
  split_ifs with h2
  · exact congrArg (fun n => v (ix2 0 n)) (Fin.ext (by show 256 + l.val = 128 * (s.val / 2) + l.val; omega))
  refine (select_bit (p := s.val / 2 = 1) (by clear h3 h2 v l; revert s; decide +kernel) _ _).trans ?_
  split_ifs with h1
  · exact congrArg (fun n => v (ix2 0 n)) (Fin.ext (by show 128 + l.val = 128 * (s.val / 2) + l.val; omega))
  refine (select_bit (p := s.val / 2 = 0) (by clear h3 h2 h1 v l; revert s; decide +kernel) _ _).trans ?_
  rw [if_pos (by omega)]
  exact congrArg (fun n => v (ix2 0 n)) (Fin.ext (by show l.val = 128 * (s.val / 2) + l.val; omega))

/-- The group maximum from the spread lanes: the largest over the half of the 128 lanes that is the group, the others read as zero. -/
theorem masked_le (v : FVec Idealize.ShloMosaic.Ideal S8x128 .f32) (s : Fin 8) (l : Fin 128) (c : EReal) :
    k0_pay32 (iota .tc S8x128 32 [0] iota_S8x128_d0_w32) (iota .tc S8x128 32 [1] iota_S8x128_d1_w32) v 64#32 k0_pay31 (ix2 s l) ≤ c
      ↔ ∀ x : Fin 128, (if x.val / 64 = s.val % 2 then v (ix2 s x) else (0 : EReal)) ≤ c := by
  have e : k0_pay32 (iota .tc S8x128 32 [0] iota_S8x128_d0_w32) (iota .tc S8x128 32 [1] iota_S8x128_d1_w32) v 64#32 k0_pay31 (ix2 s l)
      = Finset.fold max (Ideal.ofBits .f32 4286578688#32) (fun x : Fin 128 => if x.val / 64 = s.val % 2 then v (ix2 s x) else (0 : EReal)) Finset.univ := by
    pointwise [k0_pay31, k0_pay32]
    congr 1
    funext x
    refine select_bit ?_ _ _
    clear v c
    revert s x
    decide +kernel
  rw [e, Finset.fold_max_le]
  exact ⟨fun h x => h.2 x (Finset.mem_univ x), fun h => ⟨start_le c, fun x _ => h x⟩⟩

/-- The kernel's group maximum is the least bound of the group. -/
theorem amax8_le (x0 : Vec Idealize.ShloMosaic.Ideal S1x24x32x512 .bf16) (g : Fin 8) (l : Fin 128) (c : EReal) :
    amax8 x0 (ix2 g l) ≤ c ↔ ∀ (r : Fin 24) (x : Fin 32) (k : Fin 64), mag (x0 (ix4 0 r x ⟨g.val * 64 + k.val, by omega⟩)) ≤ c := by
  unfold amax8
  rw [masked_le]
  constructor
  · intro h r x k
    have q := h ⟨(g.val % 2) * 64 + k.val, by omega⟩
    rw [if_pos (by show ((g.val % 2) * 64 + k.val) / 64 = g.val % 2; omega), spread8_at, amaxRow_le] at q
    have q' := q r x
    have i : (⟨128 * (g.val / 2) + ((g.val % 2) * 64 + k.val), by omega⟩ : Fin 512) = ⟨g.val * 64 + k.val, by omega⟩ := Fin.ext (by show 128 * (g.val / 2) + ((g.val % 2) * 64 + k.val) = g.val * 64 + k.val; omega)
    rw [← i]; exact q'
  · intro h x
    split_ifs with hx
    · rw [spread8_at, amaxRow_le]
      intro r y
      have q := h r y ⟨x.val % 64, by omega⟩
      have i : (⟨128 * (g.val / 2) + x.val, by omega⟩ : Fin 512) = ⟨g.val * 64 + x.val % 64, by omega⟩ := Fin.ext (by show 128 * (g.val / 2) + x.val = g.val * 64 + x.val % 64; omega)
      rw [i]; exact q
    · exact (mag_nonneg _).trans (h 0 0 0)

/-- The reference's group maximum is the least bound of the group. -/
theorem amaxR_le (dy : FVec Idealize.ShloMosaic.Ideal S40x24x32x512 .bf16) (b : Fin 40) (g : Fin 8) (c : EReal) :
    Cert.ReferenceIdeal.Val.amaxR dy (ix2 b g) ≤ c ↔ ∀ (r : Fin 24) (x : Fin 32) (k : Fin 64), mag (dy (ix4 b r x ⟨g.val * 64 + k.val, by omega⟩)) ≤ c := by
  have e : ∀ Y, Cert.ReferenceIdeal.Val.amaxR dy (ix2 b g) = Y → Y = Cert.ReferenceIdeal.Val.amaxR dy (ix2 b g) := fun _ h => h.symm
  rw [← e _ (by pointwise [Cert.ReferenceIdeal.Val.amaxR]; rfl)]
  rw [Finset.fold_max_le]
  constructor
  · rintro ⟨-, h⟩ r x k
    refine h (Fin.cons b (Fin.cons r (Fin.cons x (Fin.cons g (Fin.cons k (fun i => i.elim0)))))) ?_
    rw [Finset.mem_filter]
    refine ⟨Finset.mem_univ _, ?_⟩
    funext d
    refine Fin.ext ?_
    rw [Shape.ReducesTo.drop_apply_val]
    fin_cases d <;> rfl
  · intro h
    refine ⟨start_le c, fun i hi => ?_⟩
    rw [Finset.mem_filter] at hi
    have h0 : i 0 = b := by
      have := congrArg Fin.val (congrFun hi.2 0); rw [Shape.ReducesTo.drop_apply_val] at this; exact Fin.ext this
    have h3 : i 3 = g := by
      have := congrArg Fin.val (congrFun hi.2 1); rw [Shape.ReducesTo.drop_apply_val] at this; exact Fin.ext this
    have q := h (i 1) (i 2) (i 4)
    subst h0 h3
    exact q

/-- The two group maxima are the same number. -/
theorem amax_eq (dy : FVec Idealize.ShloMosaic.Ideal S40x24x32x512 .bf16) (b : Fin 40) (g : Fin 8) (l : Fin 128) :
    amax8 (batch dy b) (ix2 g l) = Cert.ReferenceIdeal.Val.amaxR dy (ix2 b g) := by
  refine eq_of_forall_ge_iff (fun c => ?_)
  rw [amax8_le, amaxR_le]
  rfl

end Cert.KernelIdeal.Val
-- ==== Proof.Exponent.lean ====
/- The block exponent of one group as exact numbers: what the kernel's search in the exponent field finds, what the reference's
   count finds, and the power of two each makes of it. -/
module
public import Idealize.ShloMosaic.Lib.Pointwise
public import Idealize.ShloMosaic.Lib.IdealHost
@[expose] public section
set_option maxRecDepth 16384
noncomputable section
namespace Cert.Exponent
open Idealize.ShloMosaic Idealize.ShloMosaic.TcCoe

/-- The number whose exponent field is `t` and whose other bits are clear. -/
def pw (t : BitVec 32) : EReal := Ideal.ofBits .f32 (IntOp.shli .vector t 23#32)

/-- The fields of such a pattern: no sign, exponent `t`, no fraction. -/
theorem fields : ∀ t : Fin 256, ((IntOp.shli .vector (BitVec.ofNat 32 t.val) 23#32).extractLsb' 31 1 == 1#1) = false
    ∧ ((IntOp.shli .vector (BitVec.ofNat 32 t.val) 23#32).extractLsb' 23 8).toNat = t.val
    ∧ ((IntOp.shli .vector (BitVec.ofNat 32 t.val) 23#32).extractLsb' 0 23).toNat = 0 := by decide +kernel

/-- The number with exponent field `t`: zero at 0, infinity at 255, `2^(t−127)` between. -/
theorem pw_nat (t : ℕ) (h : t < 256) : pw (BitVec.ofNat 32 t) = if t = 0 then (0 : EReal) else if t = 255 then ⊤ else (((2 : ℝ) ^ ((t : ℤ) - 127) : ℝ) : EReal) := by
  obtain ⟨h1, h2, h3⟩ := fields ⟨t, h⟩
  unfold pw
  generalize IntOp.shli .vector (BitVec.ofNat 32 t) 23#32 = v at h1 h2 h3 ⊢
  show Ideal.ieee 8 23 v = _
  unfold Ideal.ieee
  simp only [h1, h2, h3, Nat.reduceAdd]
  clear h1 h2 h3
  by_cases h0 : t = 0
  · subst h0; simp
  by_cases h5 : t = 255
  · subst h5; simp
  · rw [if_neg (by omega), if_neg h0, if_neg h0, if_neg h5]
    congr 1
    have : (2 : ℝ) ^ ((t : ℤ) - 127) = 2 ^ 23 * (2 : ℝ) ^ ((t : ℤ) - (2 ^ (8 - 1) - 1) - (23 : ℕ)) := by
      rw [← zpow_natCast, ← zpow_add₀ (by norm_num)]; congr 1; push_cast; ring
    rw [this]; norm_num

/-- Larger fields are larger numbers. -/
theorem pw_mono (s t : ℕ) (h : s ≤ t) (ht : t < 256) : pw (BitVec.ofNat 32 s) ≤ pw (BitVec.ofNat 32 t) := by
  rw [pw_nat s (by omega), pw_nat t ht]
  by_cases h5 : t = 255
  · subst h5; simp
  by_cases h0 : s = 0
  · subst h0
    rw [if_pos rfl]
    split_ifs
    · exact le_rfl
    · exact EReal.coe_nonneg.mpr (zpow_pos (by norm_num : (0:ℝ) < 2) _).le
  · rw [if_neg h0, if_neg (by omega), if_neg (by omega), if_neg h5]
    exact EReal.coe_le_coe_iff.mpr (zpow_le_zpow_right₀ (by norm_num) (by omega))

/-- The number of positive fields whose number is at most `m`. -/
def fieldOf (m : EReal) : ℕ := by
  classical exact Nat.findGreatest (fun t => pw (BitVec.ofNat 32 t) ≤ m) 255

/-- It is a field. -/
theorem fieldOf_lt (m : EReal) : fieldOf m < 256 := by
  unfold fieldOf; classical exact Nat.lt_succ_of_le (Nat.findGreatest_le _)

/-- The fields at most `m` are those up to it. -/
theorem fieldOf_spec (m : EReal) (t : ℕ) (h : 1 ≤ t) (ht : t < 256) : pw (BitVec.ofNat 32 t) ≤ m ↔ t ≤ fieldOf m := by
  classical
  constructor
  · intro e; unfold fieldOf; exact Nat.le_findGreatest (by omega) e
  · intro e
    refine (pw_mono t _ e (fieldOf_lt m)).trans ?_
    have : fieldOf m ≠ 0 := by omega
    exact Nat.findGreatest_of_ne_zero (P := fun t => pw (BitVec.ofNat 32 t) ≤ m) (n := 255) (by unfold fieldOf; congr) this

/-- One step of the search: add the bit unless that passes `m`. -/
def step (m : EReal) (f bit : BitVec 32) : BitVec 32 :=
  Scalar.select (FloatOps.cmpf (F := Idealize.ShloMosaic.Ideal) (φ := .f32) .olt m (pw (IntOp.addi f bit))) f (IntOp.addi f bit)

/-- A step of the search halves the room above. -/
theorem step_eq (m : EReal) (f b : ℕ) (hb : 0 < b) (h1 : f ≤ fieldOf m) (h2 : fieldOf m < f + 2 * b) (h3 : f + 2 * b ≤ 256) :
    ∃ f', step m (BitVec.ofNat 32 f) (BitVec.ofNat 32 b) = BitVec.ofNat 32 f' ∧ f' ≤ fieldOf m ∧ fieldOf m < f' + b ∧ f' + b ≤ 256 := by
  have e : IntOp.addi (BitVec.ofNat 32 f) (BitVec.ofNat 32 b) = BitVec.ofNat 32 (f + b) := by
    simp [IntOp.addi, BitVec.ofNat_add]
  have s := fieldOf_spec m (f + b) (by omega) (by omega)
  unfold step
  rw [e]
  by_cases h : f + b ≤ fieldOf m
  · refine ⟨f + b, ?_, h, by omega, by omega⟩
    have : ¬ m < pw (BitVec.ofNat 32 (f + b)) := not_lt.mpr (s.mpr h)
    simp [Scalar.select, FloatOps.cmpf, Ideal.cmp, this]
  · refine ⟨f, ?_, h1, by omega, by omega⟩
    have : m < pw (BitVec.ofNat 32 (f + b)) := not_le.mp (fun q => h (s.mp q))
    simp [Scalar.select, FloatOps.cmpf, Ideal.cmp, this]

/-- The search for the exponent field, from the highest bit down. -/
def search (m : EReal) : BitVec 32 :=
  step m (step m (step m (step m (step m (step m (step m (step m 0#32 128#32) 64#32) 32#32) 16#32) 8#32) 4#32) 2#32) 1#32

/-- The search finds the largest field at most `m`. -/
theorem search_eq (m : EReal) : search m = BitVec.ofNat 32 (fieldOf m) := by
  unfold search
  obtain ⟨f1, e1, a1, b1, c1⟩ := step_eq m 0 128 (by omega) (by omega) (by have := fieldOf_lt m; omega) (by omega)
  rw [e1]
  obtain ⟨f2, e2, a2, b2, c2⟩ := step_eq m f1 64 (by omega) a1 (by omega) (by omega)
  rw [e2]
  obtain ⟨f3, e3, a3, b3, c3⟩ := step_eq m f2 32 (by omega) a2 (by omega) (by omega)
  rw [e3]
  obtain ⟨f4, e4, a4, b4, c4⟩ := step_eq m f3 16 (by omega) a3 (by omega) (by omega)
  rw [e4]
  obtain ⟨f5, e5, a5, b5, c5⟩ := step_eq m f4 8 (by omega) a4 (by omega) (by omega)
  rw [e5]
  obtain ⟨f6, e6, a6, b6, c6⟩ := step_eq m f5 4 (by omega) a5 (by omega) (by omega)
  rw [e6]
  obtain ⟨f7, e7, a7, b7, c7⟩ := step_eq m f6 2 (by omega) a6 (by omega) (by omega)
  rw [e7]
  obtain ⟨f8, e8, a8, b8, c8⟩ := step_eq m f7 1 (by omega) a7 (by omega) (by omega)
  rw [e8]
  congr 1; omega

/-- The field the kernel makes of an exponent: the exponent plus 127, kept in 0 to 255. -/
def clipField (e : BitVec 32) : BitVec 32 := IntOp.minsi 255#32 (IntOp.maxsi 0#32 (IntOp.addi e 127#32))

/-- The constant two. -/
theorem two : Ideal.ofBits .f32 1073741824#32 = ((2 : ℝ) : EReal) := by
  simp [Ideal.ofBits, Ideal.ieee, -EReal.coe_mul]; norm_num
/-- The constant infinity. -/
theorem inf : Ideal.ofBits .f32 2139095040#32 = (⊤ : EReal) := by
  simp [Ideal.ofBits, Ideal.ieee]

/-- Two to a whole exponent. -/
theorem pow_two (e : BitVec 32) : Ideal.pow (Ideal.ofBits .f32 1073741824#32) (FloatOps.sitofp (F := Idealize.ShloMosaic.Ideal) .f32 e) = (((2 : ℝ) ^ e.toInt : ℝ) : EReal) := by
  rw [two]
  show ((Real.rpow 2 (e.toInt : ℝ) : ℝ) : EReal) = _
  congr 1
  exact Real.rpow_intCast 2 e.toInt

/-- The reference's power of two: zero below −126, infinity above 127. -/
def pow2 (e : BitVec 32) : EReal :=
  Scalar.select (IntOp.cmpi .slt e 4294967170#32) (0 : EReal)
    (Scalar.select (IntOp.cmpi .sgt e 127#32) (Ideal.ofBits .f32 2139095040#32)
      (Ideal.pow (Ideal.ofBits .f32 1073741824#32) (FloatOps.sitofp (F := Idealize.ShloMosaic.Ideal) .f32 e)))

/-- The facts about whole exponents the two spellings need: the field of an exponent, and where it leaves the range. -/
theorem clip_facts : ∀ k : Fin 259, clipField (BitVec.ofInt 32 ((k.val : ℤ) - 129)) = BitVec.ofNat 32 (min 255 (k.val - 2))
    ∧ IntOp.cmpi .slt (BitVec.ofInt 32 ((k.val : ℤ) - 129)) 4294967170#32 = BitVec.ofBool (decide (k.val < 3))
    ∧ IntOp.cmpi .sgt (BitVec.ofInt 32 ((k.val : ℤ) - 129)) 127#32 = BitVec.ofBool (decide (256 < k.val))
    ∧ (BitVec.ofInt 32 ((k.val : ℤ) - 129)).toInt = (k.val : ℤ) - 129 := by decide +kernel

/-- The two spellings of the power of two agree on every exponent reached. -/
theorem pow2_eq (k : ℕ) (h : k < 259) : pw (clipField (BitVec.ofInt 32 ((k : ℤ) - 129))) = pow2 (BitVec.ofInt 32 ((k : ℤ) - 129)) := by
  obtain ⟨h1, h2, h3, h4⟩ := clip_facts ⟨k, h⟩
  simp only at h1 h2 h3 h4
  unfold pow2
  rw [h1, h2, h3, pow_two, inf, h4, pw_nat _ (by omega)]
  by_cases hs : k < 3
  · have : min 255 (k - 2) = 0 := by omega
    simp [this, hs, Scalar.select]
  by_cases hg : 256 < k
  · have : min 255 (k - 2) = 255 := by omega
    simp [this, hs, hg, Scalar.select]
  · rw [if_neg (by omega), if_neg (by omega)]
    simp only [hs, hg, Scalar.select, decide_false]
    simp only [BitVec.ofBool_false]
    rw [if_neg (by decide), if_neg (by decide)]
    congr 2; omega

/-- The powers of two the reference counts: the number of field `x + 1`. -/
theorem power_eq (x : Fin 255) : (if h : x.val < 254 then
      Ideal.pow (Ideal.ofBits .f32 1073741824#32) (FloatOps.sitofp (F := Idealize.ShloMosaic.Ideal) .f32 (IntOp.addi 4294967170#32 (BitVec.ofNat 32 x.val)))
    else Ideal.ofBits .f32 2139095040#32) = pw (BitVec.ofNat 32 (x.val + 1)) := by
  have hi : ∀ x : Fin 255, (IntOp.addi 4294967170#32 (BitVec.ofNat 32 x.val)).toInt = (x.val : ℤ) - 126 := by decide +kernel
  rw [pw_nat _ (by omega), if_neg (by omega), pow_two, hi x, inf]
  by_cases h : x.val < 254
  · rw [dif_pos h, if_neg (by omega)]
    congr 2; push_cast; ring
  · rw [dif_neg h, if_pos (by omega)]

/-- As many of 255 indices lie below `n` as `n` says. -/
theorem card_lt : ∀ n : Fin 256, (Finset.univ.filter (fun x : Fin 255 => x.val + 1 ≤ n.val)).card = n.val := by decide +kernel

/-- Adding up bits counts them. -/
theorem fold_bits {ι : Type} [DecidableEq ι] (p : ι → Prop) [DecidablePred p] (s : Finset ι) :
    Finset.fold IntOp.addi 0#32 (fun x => if p x then (1 : BitVec 32) else 0) s = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (fun q => ha (Finset.mem_filter.mp q).1), Nat.add_comm, BitVec.ofNat_add]; rfl
    · rw [if_neg h, if_neg h]; simp [IntOp.addi]

/-- The reference's count is the field. -/
theorem count_eq (m : EReal) : Finset.fold IntOp.addi 0#32 (fun x : Fin 255 => BitVec.setWidth 32 (BitVec.ofBool (decide
      ((if h : x.val < 254 then
          Ideal.pow (Ideal.ofBits .f32 1073741824#32) (FloatOps.sitofp (F := Idealize.ShloMosaic.Ideal) .f32 (IntOp.addi 4294967170#32 (BitVec.ofNat 32 x.val)))
        else Ideal.ofBits .f32 2139095040#32) ≤ m)))) Finset.univ = BitVec.ofNat 32 (fieldOf m) := by
  have e : ∀ x : Fin 255, BitVec.setWidth 32 (BitVec.ofBool (decide
      ((if h : x.val < 254 then
          Ideal.pow (Ideal.ofBits .f32 1073741824#32) (FloatOps.sitofp (F := Idealize.ShloMosaic.Ideal) .f32 (IntOp.addi 4294967170#32 (BitVec.ofNat 32 x.val)))
        else Ideal.ofBits .f32 2139095040#32) ≤ m))) = if x.val + 1 ≤ fieldOf m then (1 : BitVec 32) else 0 := by
    intro x
    have s := fieldOf_spec m (x.val + 1) (by omega) (by omega)
    rw [power_eq x]
    by_cases h : x.val + 1 ≤ fieldOf m
    · simp [h, s.mpr h]
    · simp [h, s]
  refine (congrArg (fun f => Finset.fold IntOp.addi 0#32 f Finset.univ) (funext e)).trans ?_
  rw [fold_bits, card_lt ⟨fieldOf m, fieldOf_lt m⟩]

end Cert.Exponent
-- ==== Proof.Scale.lean ====
/- The scale and the inverse scale of each group as exact numbers: the kernel's are the reference's, group by group, along the lanes
   and as the stored row. -/
module
public import proofs.«01_k».proof.Proof.Amax
public import proofs.«01_k».proof.Proof.Exponent
@[expose] public section
set_option maxRecDepth 16384
noncomputable section
namespace Cert.KernelIdeal.Val
open Idealize.ShloMosaic Idealize.ShloMosaic.TcCoe Idealize.ShloMosaic.Tactic
open Cert.KernelIdeal.Gen Cert.Exponent

/-- The reciprocal of the largest code. -/
def recip : EReal := Ideal.ofBits .f32 932333861#32

/-- It is not zero. -/
theorem recip_ne : recip ≠ 0 := by
  unfold recip
  simp [Ideal.ofBits, Ideal.ieee]

/-- The exponent of a group whose largest absolute value is `a`. -/
def expo (a : EReal) : BitVec 32 := if a = 0 then 0#32 else IntOp.subi (BitVec.ofNat 32 (fieldOf (a * recip))) 126#32

/-- A step of the search on all groups at once. -/
def stepV (m : FVec Idealize.ShloMosaic.Ideal S8x128 .f32) (f : IVec S8x128 32) (bit : BitVec 32) : IVec S8x128 32 :=
  select (cmpf .olt m (bitcastToFloat .f32 (shli (addi f (broadcast S8x128 bit)) (broadcast S8x128 23#32)))) f (addi f (broadcast S8x128 bit))

/-- It is a step at each. -/
theorem stepV_at (m : FVec Idealize.ShloMosaic.Ideal S8x128 .f32) (f : IVec S8x128 32) (bit : BitVec 32) (i : S8x128.Idx) : stepV m f bit i = step (m i) (f i) bit := rfl

/-- The search's first five steps. -/
theorem k35_at (a : FVec Idealize.ShloMosaic.Ideal S8x128 .f32) (i : S8x128.Idx) :
    k0_pay35 a i = step (a i * recip) (step (a i * recip) (step (a i * recip) (step (a i * recip) (step (a i * recip) 0#32 128#32) 64#32) 32#32) 16#32) 8#32 := by
  have e : k0_pay35 a = stepV (k0_pay33 a) (stepV (k0_pay33 a) (stepV (k0_pay33 a) (stepV (k0_pay33 a) (stepV (k0_pay33 a) (broadcast S8x128 0#32) 128#32) 64#32) 32#32) 16#32) 8#32 := rfl
  have e33 : k0_pay33 a i = a i * recip := rfl
  have e0 : (broadcast S8x128 0#32 : IVec S8x128 32) i = 0#32 := rfl
  rw [e, stepV_at, stepV_at, stepV_at, stepV_at, stepV_at, e33, e0]

/-- The search's last three steps, and the exponent from what they find. -/
theorem k38_gen (v v2 v5 : FVec Idealize.ShloMosaic.Ideal S8x128 .f32) (v4 : IVec S8x128 1) (f g : IVec S8x128 32) (i : S8x128.Idx) :
    k0_pay38 v v2 v4 f g v5 i = Scalar.select (FloatOps.cmpf (F := Idealize.ShloMosaic.Ideal) (φ := .f32) .oeq (v i) (Ideal.ofBits .f32 0#32)) 0#32
      (Scalar.select (v4 i) 0#32 (IntOp.subi (step (v2 i) (step (v2 i)
        (Scalar.select (FloatOps.cmpf (F := Idealize.ShloMosaic.Ideal) (φ := .f32) .olt (v2 i) (v5 i)) (f i) (g i)) 2#32) 1#32) 126#32)) := by
  unfold k0_pay38
  rfl

/-- The kernel's exponent. -/
theorem k38_at (a : FVec Idealize.ShloMosaic.Ideal S8x128 .f32) (i : S8x128.Idx) :
    k0_pay38 a (k0_pay33 a) (k0_pay34 a) (k0_pay35 a) (k0_pay36 a) (k0_pay37 a) i = expo (a i) := by
  have e33 : k0_pay33 a i = a i * recip := rfl
  have e34 : k0_pay34 a i = FloatOps.cmpf (F := Idealize.ShloMosaic.Ideal) (φ := .f32) .oeq (a i * recip) (Ideal.ofBits .f32 0#32) := rfl
  have e36 : k0_pay36 a i = IntOp.addi (k0_pay35 a i) 4#32 := rfl
  have e37 : k0_pay37 a i = pw (IntOp.addi (k0_pay35 a i) 4#32) := rfl
  have e4 : Scalar.select (FloatOps.cmpf (F := Idealize.ShloMosaic.Ideal) (φ := .f32) .olt (a i * recip) (pw (IntOp.addi (k0_pay35 a i) 4#32))) (k0_pay35 a i) (IntOp.addi (k0_pay35 a i) 4#32)
      = step (a i * recip) (k0_pay35 a i) 4#32 := rfl
  rw [k38_gen, e33, e34, e36, e37, e4, k35_at]
  have e : step (a i * recip) (step (a i * recip) (step (a i * recip) (step (a i * recip) (step (a i * recip) (step (a i * recip) (step (a i * recip) (step (a i * recip) 0#32 128#32) 64#32) 32#32) 16#32) 8#32) 4#32) 2#32) 1#32
      = search (a i * recip) := rfl
  rw [e, search_eq]
  have z : (Ideal.ofBits .f32 0#32 : EReal) = 0 := by simp [Ideal.ofBits, Ideal.ieee]
  rw [z]
  unfold expo
  by_cases h : (a i : EReal) = 0
  · rw [if_pos h]
    exact (select_bit (p := (a i : EReal) = 0) rfl _ _).trans (if_pos h)
  · rw [if_neg h]
    refine ((select_bit (p := (a i : EReal) = 0) rfl _ _).trans (if_neg h)).trans ?_
    refine (select_bit (p := (a i * recip : EReal) = 0) rfl _ _).trans (if_neg ?_)
    exact mul_ne_zero h recip_ne

/-- The exponent is one of those reached, -/
theorem expo_range (a : EReal) : ∃ k : ℕ, k < 259 ∧ expo a = BitVec.ofInt 32 ((k : ℤ) - 129) := by
  have h : ∀ n : Fin 256, IntOp.subi (BitVec.ofNat 32 n.val) 126#32 = BitVec.ofInt 32 (((n.val + 3 : ℕ) : ℤ) - 129) := by decide +kernel
  unfold expo
  split_ifs
  · exact ⟨129, by omega, by decide⟩
  · exact ⟨fieldOf (a * recip) + 3, by have := fieldOf_lt (a * recip); omega, h ⟨_, fieldOf_lt _⟩⟩

/-- and so is its negative. -/
theorem expo_neg_range (a : EReal) : ∃ k : ℕ, k < 259 ∧ IntOp.subi 0#32 (expo a) = BitVec.ofInt 32 ((k : ℤ) - 129) := by
  have h : ∀ n : Fin 256, IntOp.subi 0#32 (IntOp.subi (BitVec.ofNat 32 n.val) 126#32) = BitVec.ofInt 32 (((255 - n.val : ℕ) : ℤ) - 129) := by decide +kernel
  unfold expo
  split_ifs
  · exact ⟨129, by omega, by decide⟩
  · exact ⟨255 - fieldOf (a * recip), by omega, h ⟨_, fieldOf_lt _⟩⟩

/-- The kernel's scale is the power of two of the exponent. -/
theorem scl8_at (a : FVec Idealize.ShloMosaic.Ideal S8x128 .f32) (i : S8x128.Idx) : scl8 a i = pow2 (expo (a i)) := by
  have e : scl8 a i = pw (clipField (k0_pay38 a (k0_pay33 a) (k0_pay34 a) (k0_pay35 a) (k0_pay36 a) (k0_pay37 a) i)) := rfl
  obtain ⟨k, hk, q⟩ := expo_range (a i)
  rw [e, k38_at, q, pow2_eq k hk]

/-- The kernel's inverse scale is the power of two of the exponent's negative. -/
theorem inv8_at (a : FVec Idealize.ShloMosaic.Ideal S8x128 .f32) (i : S8x128.Idx) : (Ideal.ofBits .f32 (inv8 a i) : EReal) = pow2 (IntOp.subi 0#32 (expo (a i))) := by
  have e : (Ideal.ofBits .f32 (inv8 a i) : EReal) = pw (clipField (IntOp.subi 0#32 (k0_pay38 a (k0_pay33 a) (k0_pay34 a) (k0_pay35 a) (k0_pay36 a) (k0_pay37 a) i))) := rfl
  obtain ⟨k, hk, q⟩ := expo_neg_range (a i)
  rw [e, k38_at, q, pow2_eq k hk]

/-- The reference's exponent. -/
theorem expoR_at (a : FVec Idealize.ShloMosaic.Ideal S40x8 .f32) (b : Fin 40) (g : Fin 8) : Cert.ReferenceIdeal.Val.expoR a (ix2 b g) = expo (a (ix2 b g)) := by
  have e : Cert.ReferenceIdeal.Val.countR a (ix2 b g) = IntOp.subi (BitVec.ofNat 32 (fieldOf (a (ix2 b g) * recip))) 126#32 := by
    have q : ∀ Y, Cert.ReferenceIdeal.Val.countR a (ix2 b g) = Y → Y = Cert.ReferenceIdeal.Val.countR a (ix2 b g) := fun _ h => h.symm
    rw [← q _ (by
      pointwise [Cert.ReferenceIdeal.Val.countR, Cert.ReferenceIdeal.Val.powersR]
      exact rfl)]
    refine congrArg (fun t => IntOp.subi t 126#32) ?_
    refine Eq.trans ?_ (count_eq _)
    refine Finset.fold_congr fun x _ => ?_
    rfl
  pointwise [Cert.ReferenceIdeal.Val.expoR]
  rw [e]; rfl

/-- The reference's power of two. -/
theorem pow2R_at (e : IVec S40x8 32) (i : S40x8.Idx) : (Cert.ReferenceIdeal.Val.pow2R (F := Idealize.ShloMosaic.Ideal) e i : EReal) = pow2 (e i) := by
  idx_vars i
  pointwise [Cert.ReferenceIdeal.Val.pow2R]
  rfl

/-- The reference's scale. -/
theorem scaleR_at (dy : FVec Idealize.ShloMosaic.Ideal S40x24x32x512 .bf16) (b : Fin 40) (g : Fin 8) :
    Cert.ReferenceIdeal.Val.scaleR dy (ix2 b g) = pow2 (expo (Cert.ReferenceIdeal.Val.amaxR dy (ix2 b g))) := by
  unfold Cert.ReferenceIdeal.Val.scaleR
  rw [pow2R_at, expoR_at]
/-- The reference's inverse scale. -/
theorem invR_at (dy : FVec Idealize.ShloMosaic.Ideal S40x24x32x512 .bf16) (b : Fin 40) (g : Fin 8) :
    Cert.ReferenceIdeal.Val.invR dy (ix2 b g) = pow2 (IntOp.subi 0#32 (expo (Cert.ReferenceIdeal.Val.amaxR dy (ix2 b g)))) := by
  unfold Cert.ReferenceIdeal.Val.invR
  rw [pow2R_at]
  have this : ∀ (v : IVec S40x8 32) (i : S40x8.Idx), negi v i = IntOp.subi 0#32 (v i) := by
    intro v i
    show -(v i) = (0#32 : BitVec 32) - v i
    simp
  rw [this, expoR_at]

variable (dy : FVec Idealize.ShloMosaic.Ideal S40x24x32x512 .bf16) (b : Fin 40)

/-- The scale of a group is the reference's. -/
theorem scl8_eq (g : Fin 8) (l : Fin 128) : scl8 (amax8 (batch dy b)) (ix2 g l) = Cert.ReferenceIdeal.Val.scaleR dy (ix2 b g) := by
  rw [scl8_at, scaleR_at, amax_eq]
/-- The inverse scale of a group is the reference's. -/
theorem inv8_eq (g : Fin 8) (l : Fin 128) : (Ideal.ofBits .f32 (inv8 (amax8 (batch dy b)) (ix2 g l)) : EReal) = Cert.ReferenceIdeal.Val.invR dy (ix2 b g) := by
  rw [inv8_at, invR_at, amax_eq]

/-- Numbers of eight groups laid along 512 lanes, as both rows of scales are. -/
def lanes (f : Fin 8 → EReal) (n : Fin 512) : EReal :=
  if h : n.val < 128 then Scalar.select (IntOp.cmpi .slt (BitVec.ofNat 32 n.val) 64#32) (f 0) (f 1)
  else if h : n.val - 128 < 128 then Scalar.select (IntOp.cmpi .slt (BitVec.ofNat 32 (n.val - 128)) 64#32) (f 2) (f 3)
  else if h : n.val - 128 - 128 < 128 then Scalar.select (IntOp.cmpi .slt (BitVec.ofNat 32 (n.val - 128 - 128)) 64#32) (f 4) (f 5)
  else Scalar.select (IntOp.cmpi .slt (BitVec.ofNat 32 (n.val - 128 - 128 - 128)) 64#32) (f 6) (f 7)

/-- Each lane carries the number of its group. -/
theorem lanes_eq (f : Fin 8 → EReal) (n : Fin 512) : lanes f n = f ⟨n.val / 64, by omega⟩ := by
  have c : ∀ k : Fin 128, IntOp.cmpi .slt (BitVec.ofNat 32 k.val) 64#32 = BitVec.ofBool (decide (k.val < 64)) := by decide +kernel
  have pick : ∀ (k : ℕ) (hk : k < 128) (a b : Fin 8), (a.val = n.val / 64 ∨ 64 ≤ k) → (b.val = n.val / 64 ∨ k < 64) →
      Scalar.select (IntOp.cmpi .slt (BitVec.ofNat 32 k) 64#32) (f a) (f b) = f ⟨n.val / 64, by omega⟩ := by
    intro k hk a b ha hb
    rw [select_bit (c ⟨k, hk⟩)]
    split_ifs with h
    · exact congrArg f (Fin.ext (ha.resolve_right (by simp only at h; omega)))
    · exact congrArg f (Fin.ext (hb.resolve_right (by simp only at h; omega)))
  unfold lanes
  split_ifs with h1 h2 h3
  · exact pick _ h1 0 1 (by show 0 = _ ∨ _; omega) (by show 1 = _ ∨ _; omega)
  · exact pick _ h2 2 3 (by show 2 = _ ∨ _; omega) (by show 3 = _ ∨ _; omega)
  · exact pick _ h3 4 5 (by show 4 = _ ∨ _; omega) (by show 5 = _ ∨ _; omega)
  · exact pick _ (by omega) 6 7 (by show 6 = _ ∨ _; omega) (by show 7 = _ ∨ _; omega)

/-- The inverse scales along the lanes are the reference's. -/
theorem invT_eq (x : Fin 32) (n : Fin 512) : invT (amax8 (batch dy b)) (ix2 x n) = Cert.ReferenceIdeal.Val.invR dy (ix2 b ⟨n.val / 64, by omega⟩) := by
  refine Eq.trans ?_ (lanes_eq (fun g => Cert.ReferenceIdeal.Val.invR dy (ix2 b g)) n)
  pointwise [invT, k0_pay42]
  simp only [inv8_eq]
  rfl

/-- The scales along the lanes are the reference's. -/
theorem sclT_eq (x : Fin 32) (n : Fin 512) : sclT (amax8 (batch dy b)) (ix2 x n) = Cert.ReferenceIdeal.Val.scaleR dy (ix2 b ⟨n.val / 64, by omega⟩) := by
  refine Eq.trans ?_ (lanes_eq (fun g => Cert.ReferenceIdeal.Val.scaleR dy (ix2 b g)) n)
  pointwise [sclT, k0_pay43, k0_pay44, k0_pay45, k0_pay46]
  simp only [scl8_eq]
  rfl

/-- The row of scales stored for a block is the reference's. -/
theorem scaleRow_eq (g : Fin 8) : scaleRow (batch dy b) (ix2 0 g) = Cert.ReferenceIdeal.Val.scaleR dy (ix2 b g) := by
  have c : ∀ x g : Fin 8, IntOp.cmpi .eq (BitVec.ofNat 32 x.val) (BitVec.ofNat 32 g.val) = BitVec.ofBool (decide (x = g)) := by decide +kernel
  pointwise [scaleRow, k0_pay41]
  simp only [scl8_eq]
  refine (Finset.sum_congr rfl (fun x _ => select_bit (c x g) _ _)).trans ?_
  exact (Finset.sum_ite_eq' _ g _).trans (if_pos (Finset.mem_univ g))

/-- The array of scales is the reference's. -/
theorem scales_eq : scalesArr dy = Cert.ReferenceIdeal.Val.scaleR dy := by
  funext y
  idx_vars y
  exact scaleRow_eq dy _ _

end Cert.KernelIdeal.Val
-- ==== Proof.Conv.lean ====
/- The transposed convolution as exact sums: the reference's nine taps over the widened gradient and the kernel's four parities over
   two stacks are the same sums. -/
module
public import proofs.«01_k».proof.Proof.Arrays
public import proofs.«01_k».proof.Proof.Reference
@[expose] public section
set_option maxRecDepth 16384
noncomputable section
namespace Cert.KernelIdeal.Val
open Idealize.ShloMosaic Idealize.ShloMosaic.TcCoe Idealize.ShloMosaic.Tactic
open Cert.KernelIdeal.Gen

/-- A pixel of the gradient of batch `b`, zero outside its 24 × 32 pixels. -/
def pix (X : FVec Idealize.ShloMosaic.Ideal S40x24x32x512 .bf16) (b : Fin 40) (r s : ℕ) (n : Fin 512) : EReal :=
  if h : r < 24 ∧ s < 32 then X (ix4 b ⟨r, h.1⟩ ⟨s, h.2⟩ n) else 0

/-- A pixel against the filter row `v`. -/
def pixDot (X : FVec Idealize.ShloMosaic.Ideal S40x24x32x512 .bf16) (b : Fin 40) (r s : ℕ) (v : Fin 512 → EReal) : EReal :=
  ∑ n, pix X b r s n * v n

/-- A pixel of the widened gradient against the filter row `v`. -/
def wideDot (X : FVec Idealize.ShloMosaic.Ideal S40x24x32x512 .bf16) (b : Fin 40) (y x : ℕ) (v : Fin 512 → EReal) : EReal :=
  ∑ n, (if y % 2 = 1 ∧ x % 2 = 1 then pix X b (y / 2) (x / 2) n else 0) * v n

/-- An even row of the widened gradient is zero, -/
theorem wideDot_row (X : FVec Idealize.ShloMosaic.Ideal S40x24x32x512 .bf16) (b : Fin 40) (y x : ℕ) (v : Fin 512 → EReal) (h : y % 2 = 0) : wideDot X b y x v = 0 := by
  unfold wideDot
  refine Finset.sum_eq_zero fun n _ => ?_
  rw [if_neg (by omega), zero_mul]
/-- so is an even column, -/
theorem wideDot_col (X : FVec Idealize.ShloMosaic.Ideal S40x24x32x512 .bf16) (b : Fin 40) (y x : ℕ) (v : Fin 512 → EReal) (h : x % 2 = 0) : wideDot X b y x v = 0 := by
  unfold wideDot
  refine Finset.sum_eq_zero fun n _ => ?_
  rw [if_neg (by omega), zero_mul]
/-- and an odd place in an odd row holds a pixel. -/
theorem wideDot_odd (X : FVec Idealize.ShloMosaic.Ideal S40x24x32x512 .bf16) (b : Fin 40) (y x r s : ℕ) (v : Fin 512 → EReal) (hy : y = 2 * r + 1) (hx : x = 2 * s + 1) :
    wideDot X b y x v = pixDot X b r s v := by
  subst hy hx
  unfold wideDot pixDot
  refine Finset.sum_congr rfl fun n _ => ?_
  rw [if_pos (by omega), show (2 * r + 1) / 2 = r by omega, show (2 * s + 1) / 2 = s by omega]

/-- The widened gradient. -/
theorem wideR_at (X : FVec Idealize.ShloMosaic.Ideal S40x24x32x512 .bf16) (b : Fin 40) (y : Fin 50) (x : Fin 66) (n : Fin 512) :
    Cert.ReferenceIdeal.Val.wideR X (ix4 b y x n) = if y.val % 2 = 1 ∧ x.val % 2 = 1 then pix X b (y.val / 2) (x.val / 2) n else 0 := by
  pointwise [Cert.ReferenceIdeal.Val.wideR]
  unfold pix
  by_cases h : (1 ≤ y.val ∧ (y.val - 1) % 2 = 0 ∧ (y.val - 1) / 2 < 24) ∧ 1 ≤ x.val ∧ (x.val - 1) % 2 = 0 ∧ (x.val - 1) / 2 < 32
  · rw [dif_pos h, if_pos (by omega), dif_pos (by omega)]
    have e1 : (⟨(y.val - 1) / 2, by omega⟩ : Fin 24) = ⟨y.val / 2, by omega⟩ := Fin.ext (by show (y.val - 1) / 2 = y.val / 2; omega)
    have e2 : (⟨(x.val - 1) / 2, by omega⟩ : Fin 32) = ⟨x.val / 2, by omega⟩ := Fin.ext (by show (x.val - 1) / 2 = x.val / 2; omega)
    rw [e1, e2]
  · rw [dif_neg h]
    split_ifs with h1 h2
    · omega
    · rfl
    · rfl

/-- A filter row: tap `k`, output channel `c`. -/
def tapRow (W : FVec Idealize.ShloMosaic.Ideal S3x3x256x512 .bf16) (c : Fin 256) (k l : Fin 3) (n : Fin 512) : EReal := W (ix4 k l c n)

/-- One tap's part of the reference's convolution. -/
theorem partR_at (X : FVec Idealize.ShloMosaic.Ideal S40x24x32x512 .bf16) (W : FVec Idealize.ShloMosaic.Ideal S3x3x256x512 .bf16) (ty tx : ℕ) (hty : ty < 3) (htx : tx < 3) (h h')
    (b : Fin 40) (y : Fin 48) (x : Fin 64) (c : Fin 256) :
    Cert.ReferenceIdeal.Val.partR X W ty tx h h' (ix4 b y x c) = wideDot X b (ty + y.val) (tx + x.val) (tapRow W c (Fin.rev ⟨ty, hty⟩) (Fin.rev ⟨tx, htx⟩)) := by
  pointwise [Cert.ReferenceIdeal.Val.partR, Cert.ReferenceIdeal.Val.tapR]
  unfold wideDot
  refine Finset.sum_congr rfl fun n _ => ?_
  rw [wideR_at]
  rfl

/-- The reference's convolution at one place, tap by tap. -/
theorem convR_at (X : FVec Idealize.ShloMosaic.Ideal S40x24x32x512 .bf16) (W : FVec Idealize.ShloMosaic.Ideal S3x3x256x512 .bf16)
    (b : Fin 40) (y : Fin 48) (x : Fin 64) (c : Fin 256) :
    Cert.ReferenceIdeal.Val.convR X W (ix4 b y x c) =
      wideDot X b (0 + y.val) (0 + x.val) (tapRow W c 2 2) + wideDot X b (0 + y.val) (1 + x.val) (tapRow W c 2 1) + wideDot X b (0 + y.val) (2 + x.val) (tapRow W c 2 0)
      + wideDot X b (1 + y.val) (0 + x.val) (tapRow W c 1 2) + wideDot X b (1 + y.val) (1 + x.val) (tapRow W c 1 1) + wideDot X b (1 + y.val) (2 + x.val) (tapRow W c 1 0)
      + wideDot X b (2 + y.val) (0 + x.val) (tapRow W c 0 2) + wideDot X b (2 + y.val) (1 + x.val) (tapRow W c 0 1) + wideDot X b (2 + y.val) (2 + x.val) (tapRow W c 0 0) := by
  pointwise [Cert.ReferenceIdeal.Val.convR]
  rw [partR_at X W 0 0 (by omega) (by omega), partR_at X W 0 1 (by omega) (by omega), partR_at X W 0 2 (by omega) (by omega),
    partR_at X W 1 0 (by omega) (by omega), partR_at X W 1 1 (by omega) (by omega), partR_at X W 1 2 (by omega) (by omega),
    partR_at X W 2 0 (by omega) (by omega), partR_at X W 2 1 (by omega) (by omega), partR_at X W 2 2 (by omega) (by omega)]
  simp only [Nat.zero_add]
  rfl

/-- The first stack of the kernel holds the pixels, -/
def HoldsX0 (A : Vec Idealize.ShloMosaic.Ideal S800x512 .bf16) (X : FVec Idealize.ShloMosaic.Ideal S40x24x32x512 .bf16) (b : Fin 40) : Prop :=
  ∀ (i : Fin 800) (n : Fin 512), A (ix2 i n) = pix X b (i.val / 32) (i.val % 32) n
/-- the second the pixels to the right of them, -/
def HoldsX1 (C : Vec Idealize.ShloMosaic.Ideal S800x512 .bf16) (X : FVec Idealize.ShloMosaic.Ideal S40x24x32x512 .bf16) (b : Fin 40) : Prop :=
  ∀ (i : Fin 800) (n : Fin 512), C (ix2 i n) = pix X b (i.val / 32) (i.val % 32 + 1) n
/-- and the nine slabs the taps. -/
def HoldsW (V : Vec Idealize.ShloMosaic.Ideal S9x256x512 .bf16) (W : FVec Idealize.ShloMosaic.Ideal S3x3x256x512 .bf16) : Prop :=
  ∀ (k l : Fin 3) (c : Fin 256) (n : Fin 512), V (ix3 ⟨3 * k.val + l.val, by omega⟩ c n) = tapRow W c k l n

variable {A C : Vec Idealize.ShloMosaic.Ideal S800x512 .bf16} {V : Vec Idealize.ShloMosaic.Ideal S9x256x512 .bf16}
  {X : FVec Idealize.ShloMosaic.Ideal S40x24x32x512 .bf16} {W : FVec Idealize.ShloMosaic.Ideal S3x3x256x512 .bf16} {b : Fin 40}

/-- A product of the first stack's row with a slab. -/
theorem dot0 (hA : HoldsX0 A X b) (hV : HoldsW V W) (i : ℕ) (hi : i < 800) (r s : ℕ) (hr : i / 32 = r) (hs : i % 32 = s) (k : Fin 9) (k1 k2 : Fin 3) (hk : k.val = 3 * k1.val + k2.val) (c : Fin 256) :
    ∑ n : Fin 512, (A (ix2 ⟨i, hi⟩ n) : EReal) * V (ix3 k c n) = pixDot X b r s (tapRow W c k1 k2) := by
  unfold pixDot
  refine Finset.sum_congr rfl fun n _ => ?_
  rw [hA, show k = ⟨3 * k1.val + k2.val, by omega⟩ from Fin.ext hk, hV]
  simp only [hr, hs]
/-- A product of the second stack's row with a slab. -/
theorem dot1 (hC : HoldsX1 C X b) (hV : HoldsW V W) (i : ℕ) (hi : i < 800) (r s : ℕ) (hr : i / 32 = r) (hs : i % 32 + 1 = s) (k : Fin 9) (k1 k2 : Fin 3) (hk : k.val = 3 * k1.val + k2.val) (c : Fin 256) :
    ∑ n : Fin 512, (C (ix2 ⟨i, hi⟩ n) : EReal) * V (ix3 k c n) = pixDot X b r s (tapRow W c k1 k2) := by
  unfold pixDot
  refine Finset.sum_congr rfl fun n _ => ?_
  rw [hC, show k = ⟨3 * k1.val + k2.val, by omega⟩ from Fin.ext hk, hV]
  simp only [hr, hs]

/-- The even rows of `dx` at one place: one tap, or two. -/
theorem dxEven_at (hA : HoldsX0 A X b) (hC : HoldsX1 C X b) (hV : HoldsW V W) (q : Fin 3) (j : Fin 8) (x : Fin 64) (c : Fin 256) :
    dxEven A C V q (ix3 j x c) = if x.val % 2 = 0 then pixDot X b (8 * q.val + j.val) (x.val / 2) (tapRow W c 1 1)
      else pixDot X b (8 * q.val + j.val) (x.val / 2) (tapRow W c 1 2) + pixDot X b (8 * q.val + j.val) (x.val / 2 + 1) (tapRow W c 1 0) := by
  pointwise [dxEven, k0_pay192, k0_pay188, k0_pay189, rowsAt, slab]
  by_cases h : x.val % 2 = 0
  · rw [if_pos (by omega), if_pos h]
    exact dot0 hA hV _ _ _ _ (by omega) (by omega) 4 1 1 rfl c
  · rw [if_neg (by omega), if_neg h]
    exact congrArg₂ (fun u v : EReal => u + v) (dot0 hA hV _ _ _ _ (by omega) (by omega) 5 1 2 rfl c) (dot1 hC hV _ _ _ _ (by omega) (by omega) 3 1 0 rfl c)

/-- The odd rows of `dx` at one place: two taps, or four. -/
theorem dxOdd_at (hA : HoldsX0 A X b) (hC : HoldsX1 C X b) (hV : HoldsW V W) (q : Fin 3) (j : Fin 8) (x : Fin 64) (c : Fin 256) :
    dxOdd A C V q (ix3 j x c) = if x.val % 2 = 0 then pixDot X b (8 * q.val + j.val) (x.val / 2) (tapRow W c 2 1) + pixDot X b (8 * q.val + j.val + 1) (x.val / 2) (tapRow W c 0 1)
      else pixDot X b (8 * q.val + j.val) (x.val / 2) (tapRow W c 2 2) + pixDot X b (8 * q.val + j.val) (x.val / 2 + 1) (tapRow W c 2 0)
        + pixDot X b (8 * q.val + j.val + 1) (x.val / 2) (tapRow W c 0 2) + pixDot X b (8 * q.val + j.val + 1) (x.val / 2 + 1) (tapRow W c 0 0) := by
  pointwise [dxOdd, k0_pay190, k0_pay191, k0_pay203, rowsAt, slab]
  by_cases h : x.val % 2 = 0
  · rw [if_pos (by omega), if_pos h]
    exact congrArg₂ (fun u v : EReal => u + v) (dot0 hA hV _ _ _ _ (by omega) (by omega) 7 2 1 rfl c) (dot0 hA hV _ _ _ _ (by omega) (by omega) 1 0 1 rfl c)
  · rw [if_neg (by omega), if_neg h]
    exact congrArg₂ (fun u v : EReal => u + v) (congrArg₂ (fun u v : EReal => u + v) (congrArg₂ (fun u v : EReal => u + v)
      (dot0 hA hV _ _ _ _ (by omega) (by omega) 8 2 2 rfl c) (dot1 hC hV _ _ _ _ (by omega) (by omega) 6 2 0 rfl c))
      (dot0 hA hV _ _ _ _ (by omega) (by omega) 2 0 2 rfl c)) (dot1 hC hV _ _ _ _ (by omega) (by omega) 0 0 0 rfl c)

/-- The kernel's `dx` of a batch is the reference's convolution. -/
theorem dx_at (hA : HoldsX0 A X b) (hC : HoldsX1 C X b) (hV : HoldsW V W) (y : Fin 48) (x : Fin 64) (c : Fin 256) :
    dxOf A C V (ix4 0 y x c) = Cert.ReferenceIdeal.Val.convR X W (ix4 b y x c) := by
  rw [convR_at]
  have e : dxOf A C V (ix4 0 y x c) = if y.val % 2 = 0 then dxEven A C V ⟨y.val / 16, by omega⟩ (ix3 ⟨y.val % 16 / 2, by omega⟩ x c)
      else dxOdd A C V ⟨y.val / 16, by omega⟩ (ix3 ⟨y.val % 16 / 2, by omega⟩ x c) := by
    unfold dxOf
    show (if y.val % 2 = 0 then _ else _ : FVec Idealize.ShloMosaic.Ideal S8x64x256 .bf16) _ = _
    split_ifs <;> rfl
  have hr : 8 * (y.val / 16) + y.val % 16 / 2 = y.val / 2 := by omega
  rw [e]
  by_cases hy : y.val % 2 = 0
  · rw [if_pos hy, dxEven_at hA hC hV]
    simp only [hr]
    rw [wideDot_row X b (0 + y.val) (0 + x.val) _ (by omega), wideDot_row X b (0 + y.val) (1 + x.val) _ (by omega), wideDot_row X b (0 + y.val) (2 + x.val) _ (by omega),
      wideDot_row X b (2 + y.val) (0 + x.val) _ (by omega), wideDot_row X b (2 + y.val) (1 + x.val) _ (by omega), wideDot_row X b (2 + y.val) (2 + x.val) _ (by omega)]
    by_cases hx : x.val % 2 = 0
    · rw [if_pos hx, wideDot_col X b (1 + y.val) (0 + x.val) _ (by omega), wideDot_col X b (1 + y.val) (2 + x.val) _ (by omega),
        wideDot_odd X b (1 + y.val) (1 + x.val) (y.val / 2) (x.val / 2) _ (by omega) (by omega)]
      simp only [zero_add, add_zero]
    · rw [if_neg hx, wideDot_col X b (1 + y.val) (1 + x.val) _ (by omega),
        wideDot_odd X b (1 + y.val) (0 + x.val) (y.val / 2) (x.val / 2) _ (by omega) (by omega),
        wideDot_odd X b (1 + y.val) (2 + x.val) (y.val / 2) (x.val / 2 + 1) _ (by omega) (by omega)]
      simp only [zero_add, add_zero]
  · rw [if_neg hy, dxOdd_at hA hC hV]
    simp only [hr]
    rw [wideDot_row X b (1 + y.val) (0 + x.val) _ (by omega), wideDot_row X b (1 + y.val) (1 + x.val) _ (by omega), wideDot_row X b (1 + y.val) (2 + x.val) _ (by omega)]
    by_cases hx : x.val % 2 = 0
    · rw [if_pos hx, wideDot_col X b (0 + y.val) (0 + x.val) _ (by omega), wideDot_col X b (0 + y.val) (2 + x.val) _ (by omega),
        wideDot_col X b (2 + y.val) (0 + x.val) _ (by omega), wideDot_col X b (2 + y.val) (2 + x.val) _ (by omega),
        wideDot_odd X b (0 + y.val) (1 + x.val) (y.val / 2) (x.val / 2) _ (by omega) (by omega),
        wideDot_odd X b (2 + y.val) (1 + x.val) (y.val / 2 + 1) (x.val / 2) _ (by omega) (by omega)]
      simp only [zero_add, add_zero]
    · rw [if_neg hx, wideDot_col X b (0 + y.val) (1 + x.val) _ (by omega), wideDot_col X b (2 + y.val) (1 + x.val) _ (by omega),
        wideDot_odd X b (0 + y.val) (0 + x.val) (y.val / 2) (x.val / 2) _ (by omega) (by omega),
        wideDot_odd X b (0 + y.val) (2 + x.val) (y.val / 2) (x.val / 2 + 1) _ (by omega) (by omega),
        wideDot_odd X b (2 + y.val) (0 + x.val) (y.val / 2 + 1) (x.val / 2) _ (by omega) (by omega),
        wideDot_odd X b (2 + y.val) (2 + x.val) (y.val / 2 + 1) (x.val / 2 + 1) _ (by omega) (by omega)]
      simp only [zero_add, add_zero]

end Cert.KernelIdeal.Val
-- ==== Proof.Codes.lean ====
/- The codes, the dequantised stacks and the scaled weights as exact numbers, and with them the two equations on arrays. -/
module
public import proofs.«01_k».proof.Proof.Scale
public import proofs.«01_k».proof.Proof.Conv
@[expose] public section
set_option maxRecDepth 16384
noncomputable section
namespace Cert.KernelIdeal.Val
open Idealize.ShloMosaic Idealize.ShloMosaic.TcCoe Idealize.ShloMosaic.Tactic
open Cert.KernelIdeal.Gen

variable (dy : FVec Idealize.ShloMosaic.Ideal S40x24x32x512 .bf16) (b : Fin 40)

/-- The codes of a row are the reference's. -/
theorem codesRow_eq (r : Fin 24) (x : Fin 32) (n : Fin 512) : codesRow (batch dy b) r (ix4 0 0 x n) = Cert.ReferenceIdeal.Val.codesR dy (ix4 b r x n) := by
  have e : ∀ Y, Cert.ReferenceIdeal.Val.codesR dy (ix4 b r x n) = Y → Y = Cert.ReferenceIdeal.Val.codesR dy (ix4 b r x n) := fun _ h => h.symm
  refine Eq.trans ?_ (e _ (by
    pointwise [Cert.ReferenceIdeal.Val.codesR, Cert.ReferenceIdeal.Gen.k0_pay1, Cert.ReferenceIdeal.Val.alongR]
    rfl))
  pointwise [codesRow, k0_pay56, k0_pay55, rowAt, batch]
  rw [invT_eq]

/-- The array of codes is the reference's. -/
theorem codes_eq : codesArr dy = Cert.ReferenceIdeal.Val.codesR dy := by
  funext y
  idx_vars y
  exact codesRow_eq dy _ _ _ _

/-- A dequantised row is the reference's. -/
theorem deq_eq (r : Fin 24) (x : Fin 32) (n : Fin 512) :
    k0_pay57 (invT (amax8 (batch dy b))) (sclT (amax8 (batch dy b))) (rowAt (batch dy b) r) (ix2 x n) = Cert.ReferenceIdeal.Val.deqR dy (ix4 b r x n) := by
  have e : ∀ Y, Cert.ReferenceIdeal.Val.deqR dy (ix4 b r x n) = Y → Y = Cert.ReferenceIdeal.Val.deqR dy (ix4 b r x n) := fun _ h => h.symm
  refine Eq.trans ?_ (e _ (by
    pointwise [Cert.ReferenceIdeal.Val.deqR, Cert.ReferenceIdeal.Gen.k0_pay1, Cert.ReferenceIdeal.Gen.k0_pay2, Cert.ReferenceIdeal.Val.alongR]
    rfl))
  pointwise [k0_pay57, k0_pay55, rowAt, batch]
  rw [invT_eq, sclT_eq]

/-- A pixel inside the 24 × 32. -/
theorem pix_in (X : FVec Idealize.ShloMosaic.Ideal S40x24x32x512 .bf16) (r s : ℕ) (hr : r < 24) (hs : s < 32) (n : Fin 512) : pix X b r s n = X (ix4 b ⟨r, hr⟩ ⟨s, hs⟩ n) := by
  unfold pix; rw [dif_pos ⟨hr, hs⟩]
/-- A pixel outside. -/
theorem pix_out (X : FVec Idealize.ShloMosaic.Ideal S40x24x32x512 .bf16) (r s : ℕ) (h : ¬ (r < 24 ∧ s < 32)) (n : Fin 512) : pix X b r s n = 0 := by
  unfold pix; rw [dif_neg h]

/-- The row moved up holds the pixel to the right. -/
theorem x1Row_eq (r : Fin 24) (x : Fin 32) (n : Fin 512) : x1Row (batch dy b) r (ix2 x n) = pix (Cert.ReferenceIdeal.Val.deqR dy) b r.val (x.val + 1) n := by
  have c : ∀ k : Fin 16, IntOp.cmpi .eq (BitVec.ofNat 32 k.val) 15#32 = BitVec.ofBool (decide (k.val = 15)) := by decide +kernel
  have at' : ∀ (s : ℕ) (hs : s < 32), s = x.val + 1 → Cert.ReferenceIdeal.Val.deqR dy (ix4 b r ⟨s, hs⟩ n) = pix (Cert.ReferenceIdeal.Val.deqR dy) b r.val (x.val + 1) n := by
    intro s hs h; subst h; rw [pix_in _ _ _ _ r.isLt hs]
  pointwise [x1Row, k0_pay59, k0_pay47]
  by_cases h : x.val % 2 = 0
  · rw [if_pos h, deq_eq]
    exact at' _ _ (by omega)
  · rw [if_neg h, select_bit (c ⟨x.val / 2, by omega⟩)]
    simp only
    by_cases h2 : x.val / 2 = 15
    · rw [if_pos h2, pix_out _ _ _ _ (by omega)]
    · rw [if_neg h2, deq_eq]
      exact at' _ _ (by omega)

/-- The first stack holds the dequantised pixels. -/
theorem holds0 : HoldsX0 (stack (x0Row (batch dy b))) (Cert.ReferenceIdeal.Val.deqR dy) b := by
  intro i n
  have e : stack (x0Row (batch dy b)) (ix2 i n) = if h : i.val < 768 then x0Row (batch dy b) ⟨i.val / 32, by omega⟩ (ix2 ⟨i.val % 32, by omega⟩ n) else FloatOps.ofBits .bf16 0x0000#16 := rfl
  rw [e]
  by_cases h : i.val < 768
  · rw [dif_pos h, pix_in _ _ _ _ (by omega) (by omega), ← deq_eq]
    pointwise [x0Row, k0_pay58]
  · rw [dif_neg h, pix_out _ _ _ _ (by omega)]
    exact Ideal.ofBits_zero_bf16

/-- The second stack holds the pixels to the right. -/
theorem holds1 : HoldsX1 (stack (x1Row (batch dy b))) (Cert.ReferenceIdeal.Val.deqR dy) b := by
  intro i n
  have e : stack (x1Row (batch dy b)) (ix2 i n) = if h : i.val < 768 then x1Row (batch dy b) ⟨i.val / 32, by omega⟩ (ix2 ⟨i.val % 32, by omega⟩ n) else FloatOps.ofBits .bf16 0x0000#16 := rfl
  rw [e]
  by_cases h : i.val < 768
  · rw [dif_pos h, x1Row_eq]
  · rw [dif_neg h, pix_out _ _ _ _ (by omega)]
    exact Ideal.ofBits_zero_bf16

/-- The slabs hold the dequantised taps. -/
theorem holdsW (wq : Vec Idealize.ShloMosaic.Ideal S3x3x256x512 .fp8e4m3) (s : FVec Idealize.ShloMosaic.Ideal S512 .f32) :
    HoldsW (wts wq (wRow s)) (Cert.ReferenceIdeal.Val.wtsR wq s) := by
  intro k l c n
  unfold tapRow
  have e : ∀ Y, Cert.ReferenceIdeal.Val.wtsR wq s (ix4 k l c n) = Y → Y = Cert.ReferenceIdeal.Val.wtsR wq s (ix4 k l c n) := fun _ h => h.symm
  refine Eq.trans ?_ (e _ (by
    pointwise [Cert.ReferenceIdeal.Val.wtsR, Cert.ReferenceIdeal.Gen.k0_pay3]
    rfl))
  pointwise [wts, k0_pay3, k0_pay4, tapAt, wRow]
  have h1 : (⟨(3 * k.val + l.val) / 3, by omega⟩ : Fin 3) = k := Fin.ext (by show (3 * k.val + l.val) / 3 = k.val; omega)
  have h2 : (⟨(3 * k.val + l.val) % 3, by omega⟩ : Fin 3) = l := Fin.ext (by show (3 * k.val + l.val) % 3 = l.val; omega)
  rw [h1, h2]

/-- The array of `dx` is the reference's. -/
theorem dx_eq (wq : Vec Idealize.ShloMosaic.Ideal S3x3x256x512 .fp8e4m3) (s : FVec Idealize.ShloMosaic.Ideal S512 .f32) :
    dxArr dy wq s = Cert.ReferenceIdeal.Val.dxR dy wq s := by
  funext y
  idx_vars y
  exact dx_at (holds0 dy _) (holds1 dy _) (holdsW wq s) _ _ _

end Cert.KernelIdeal.Val
-- ==== Proof.Algebraic.lean ====
/- The algebraic claim: from the same arguments the idealized kernel and the reference end with the same three arrays. -/
module
public import proofs.«01_k».proof.Defs
public import proofs.«01_k».proof.Proof.Codes
public import Idealize.ShloMosaic.Lib.Claim
@[expose] public section
set_option maxRecDepth 16384
noncomputable section
namespace Cert.Proof
open Idealize.ShloMosaic Idealize.ShloMosaic.TcCoe Idealize.ShloMosaic.Tactic

set_option maxHeartbeats 1600000 in
/-- The idealized kernel's gradient, codes and scales are the reference's. -/
theorem algebraic [hKernelIdeal : Cert.KernelIdeal.Facts] [hReferenceIdeal : Cert.ReferenceIdeal.Facts] : Cert.algebraic_KernelIdeal_ReferenceIdeal := by
  pair_intro
  · run_from Cert.KernelIdeal.Val.run m g
  · run_from Cert.ReferenceIdeal.Gen.run_main m' g' & Cert.ReferenceIdeal.Gen.unchanged m' g'
    · rw [Cert.KernelIdeal.Val.dx_eq, ← (hagree c).1, ← (hagree c).2.1, ← (hagree c).2.2]
      exact Cert.ReferenceIdeal.Val.out_dx m' c
    · rw [Cert.KernelIdeal.Val.codes_eq, ← (hagree c).1]
      exact Cert.ReferenceIdeal.Val.arr5 m' c
    · rw [Cert.KernelIdeal.Val.scales_eq, ← (hagree c).1]
      exact Cert.ReferenceIdeal.Val.out_scale m' c

end Cert.Proof

end
-- ==== Proof.KernelSetup.lean ====
/- What the two runs of the unchanged kernel's body share: the branch condition in closed form, the staging and scratch memrefs, and the
   scratch buffers in the pipeline's invariant. -/
module

public import proofs.«01_k».proof.Proof.Gen.Kernel.Frame
public import proofs.«01_k».proof.Proof.Gen.Kernel.Skeleton

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

/-! ## The body's branch conditions -/

/-- The condition under which the body scales the weights and zeroes the rows under the images, from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 40 = 0 :=
  (fun t => by
    have ht : t.val < 40 := Nat.lt_of_lt_of_eq t.isLt N_0
    have e0 : (grid0.coords t 0).val = t.val / 1 % 40 := Pipeline.Grid.coords_val t 0 (by decide) rfl
    simp only [cond0_0, e0]
    word_cmp
   : ∀ t : Fin grid0.N, cond0_0 (grid0.coords t) ↔ t.val % 40 = 0)

/-! ## The kernel body on any staging memrefs -/

/-- Each window's current staging memref at point `t`, spelled as the pipeline passes it (`bodyAt0`), and its wholeness. -/
abbrev ms0_0 (t : Fin cfg0.N) : Memref sig .tc .vmem S1x24x32x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3x256x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x48x64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x24x32x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S40x8 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S9x256x512 .bf16 := Memref.whole cc0_scratch0
abbrev scM0_1 : Memref sig .tc .vmem S800x512 .bf16 := Memref.whole cc0_scratch1
abbrev scM0_2 : Memref sig .tc .vmem S800x512 .bf16 := Memref.whole cc0_scratch2

/-- The pipeline's invariant is the three scratch buffers owned at some contents beside the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Own

end
-- ==== Proof.KernelRunA.lean ====
/- The run of the unchanged kernel's body at the first point, where the weights are scaled and the rows under the two images are zeroed: it terminates without fault. -/
module

public import proofs.«01_k».proof.Proof.KernelSetup

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

-- (the run's proof term is large: checking it walks past the default budget)
set_option maxHeartbeats 2468000 in
/-- The kernel's body at the first point, where the weights are scaled and the rows under the two images are zeroed: from the inputs' staging memrefs at any
    contents and the outputs' and scratch memrefs at some contents, it runs to the inputs as they were and the others at some contents. -/
theorem runA (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : cond0_0 i)
    (x0 : Vec F S1x24x32x512 .bf16) (x1 : Vec F S3x3x256x512 .fp8e4m3) (x2 : Vec F S1x512 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8 arg9 harg9) K := by
    intro E K
    simp only [cc0_dgrad_eq_skeleton]; unfold cc0_dgrad_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Own

end
-- ==== Proof.KernelRunB.lean ====
/- The run of the unchanged kernel's body at every later point: it terminates without fault. -/
module

public import proofs.«01_k».proof.Proof.KernelRunA

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

-- (the run's proof term is large: checking it walks past the default budget)
set_option maxHeartbeats 2280000 in
/-- The kernel's body at every later point: from the inputs' staging memrefs at any
    contents and the outputs' and scratch memrefs at some contents, it runs to the inputs as they were and the others at some contents. -/
theorem runB (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole) (hc0 : ¬cond0_0 i)
    (x0 : Vec F S1x24x32x512 .bf16) (x1 : Vec F S3x3x256x512 .fp8e4m3) (x2 : Vec F S1x512 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8 arg9 harg9) K := by
    intro E K
    simp only [cc0_dgrad_eq_skeleton]; unfold cc0_dgrad_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Own

end
-- ==== Proof.KernelFrame.lean ====
/- The frame of the unchanged kernel: the pipeline's proof data naming no output, the body at every point, the launch, and the claim that every
   run ends with the arguments as they were and every counter at zero. -/
module

public import proofs.«01_k».proof.Proof.KernelRunB
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

variable (m : (ℓ : Loc nD τ sig) → Buf (Elt F) ℓ) (ρ : Dev nD → PrngReg)

/-! ## The pipeline's proof data -/

/-- The output windows whose contents this frame leaves unstated: all three. -/
def forgets0 : Fin 6 → Bool := fun w => w.val == 3 || w.val == 4 || w.val == 5

/-- The proof data of the one pipeline on core `c`: the arrays as the region finds them; after the body at a point each input's buffer at its block
    and nothing said of the outputs; the scratch buffers and the generator register in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays of the proof data are those the region finds. -/
theorem A_eq (c : Dev nD) (w : Fin cfg0.W) : (dats m 0 c).A w = V m c (Pipeline.arrRef spec0 w) := by
  dsimp only [dats]

/-- After the body each input's buffer holds its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Before the body each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, and the six windows' buffers. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- What the body returns at point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- The kernel's body at any point runs from the inputs at any contents to the inputs as they were, everything else at some contents. -/
theorem body (c : Dev nD) (i : grid0.Coords) (arg1 : Memref sig .tc .vmem S1x24x32x512 .bf16) (harg1 : arg1.IsWhole) (arg2 : Memref sig .tc .vmem S3x3x256x512 .fp8e4m3) (harg2 : arg2.IsWhole) (arg3 : Memref sig .tc .vmem S1x512 .f32) (harg3 : arg3.IsWhole) (arg4 : Memref sig .tc .vmem S1x48x64x256 .bf16) (harg4 : arg4.IsWhole) (arg5 : Memref sig .tc .vmem S1x24x32x512 .fp8e5m2) (harg5 : arg5.IsWhole) (arg6 : Memref sig .tc .vmem S40x8 .f32) (harg6 : arg6.IsWhole) (arg7 : Memref sig .tc .vmem S9x256x512 .bf16) (harg7 : arg7.IsWhole) (arg8 : Memref sig .tc .vmem S800x512 .bf16) (harg8 : arg8.IsWhole) (arg9 : Memref sig .tc .vmem S800x512 .bf16) (harg9 : arg9.IsWhole)
    (x0 : Vec F S1x24x32x512 .bf16) (x1 : Vec F S3x3x256x512 .fp8e4m3) (x2 : Vec F S1x512 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_dgrad i arg1 harg1 arg2 harg2 arg3 harg3 arg4 harg4 arg5 harg5 arg6 harg6 arg7 harg7 arg8 harg8 arg9 harg9) K := by
  by_cases h : cond0_0 i
  · exact runA c i arg1 harg1 arg2 harg2 arg3 harg3 arg4 harg4 arg5 harg5 arg6 harg6 arg7 harg7 arg8 harg8 arg9 harg9 h x0 x1 x2
  · exact runB c i arg1 harg1 arg2 harg2 arg3 harg3 arg4 harg4 arg5 harg5 arg6 harg6 arg7 harg7 arg8 harg8 arg9 harg9 h x0 x1 x2

set_option maxHeartbeats 1600000 in
/-- The body at any point leaves the inputs' staging buffers at their blocks and the others at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((body c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the kernel ends with the input arrays and every other buffer that no window writes as the region found them. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- From a run that ends with every staged input array as the region found it and every other buffer as it was there, whatever the outputs
    hold: the argument arrays end as launched. -/
theorem arguments_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  arguments_of m ρ (fun c => (dats m 0 c).toRForget forgets0) (A_eq m) (run_main m ρ)

/-- Every run of the kernel ends with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.lean ====
/- The proof of the claim: the three programs terminate without fault and keep their arguments, the idealized kernel differs from the
   kernel by the sanctioned rewrites alone, and from the same arguments it ends with the reference's three arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import proofs.«01_k».proof.Proof.KernelFrame
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- Each program terminates without fault and leaves its arguments as they were; the idealized kernel differs from
the kernel by the sanctioned rewrites alone; and on exact numbers its three results are the reference's. -/
theorem claim : Cert.Claim :=
  ⟨Cert.Kernel.Gen.facts, Cert.KernelIdeal.Gen.facts, Cert.ReferenceIdeal.Gen.facts,
    fun m ρ _ => Cert.Kernel.Own.frame m ρ, fun m ρ _ => Cert.KernelIdeal.Val.frame m ρ,
    fun m ρ _ => Cert.ReferenceIdeal.Gen.frame m ρ,
    ⟨IdealRules.bf16_pair.statement .., IdealRules.bf16_pair.selectZeroStatement ..,
    IdealRules.bf16_pair.packStatement .., IdealRules.bf16_pair.statement ..⟩,
    algebraic⟩

end Cert.Proof

end
